-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S32x384x384 : Shape := ⟨3, ![32, 384, 384]⟩
abbrev S_ : Shape := ⟨0, ![]⟩

class Facts : Prop where
  bcast_S_S32x384x384 : S_.BroadcastsInDim S32x384x384 (![] : Fin 0 → Fin S32x384x384.rank)
  reducesTo_S32x384x384_S_d0_1_2 : S32x384x384.ReducesTo [0, 1, 2] S_
  h_S_ : 0 < S_.numel

variable [Facts]

def fn {F : FTy → Type} [FloatOps F] (main_arg0 : FVec F S32x384x384 .f32) (main_arg1 : FVec F S32x384x384 .f32) (main_arg2 : IVec S32x384x384 32) : IVec S_ 1 :=
  let main_c : IVec S_ 32 := constantI S_ 32 0#32
  let main_v0 : IVec S32x384x384 32 := broadcastInDim S32x384x384 ![] bcast_S_S32x384x384 main_c
  let main_v1 : IVec S32x384x384 1 := cmpi .sge main_arg2 main_v0
  let main_c_0 : IVec S_ 32 := constantI S_ 32 2#32
  let main_v2 : IVec S32x384x384 32 := broadcastInDim S32x384x384 ![] bcast_S_S32x384x384 main_c_0
  let main_v3 : IVec S32x384x384 1 := cmpi .slt main_arg2 main_v2
  let main_v4 : IVec S32x384x384 1 := andi main_v1 main_v3
  let main_c_1 : IVec S_ 1 := constantI S_ 1 1#1
  let main_v5 : IVec S_ 1 := (fun x v => Host.reduce IntOp.andi x v reducesTo_S32x384x384_S_d0_1_2 h_S_) main_v4 main_c_1
  main_v5
-- ==== Kernel.lean ====
abbrev S32x384x384 : Shape := ⟨3, ![32, 384, 384]⟩
abbrev S4718592 : Shape := ⟨1, ![4718592]⟩
abbrev S32x16 : Shape := ⟨2, ![32, 16]⟩
abbrev S16384 : Shape := ⟨1, ![16384]⟩
abbrev S16 : Shape := ⟨1, ![16]⟩
abbrev S_ : Shape := ⟨0, ![]⟩
abbrev S1x16 : Shape := ⟨2, ![1, 16]⟩
abbrev S1x1 : Shape := ⟨2, ![1, 1]⟩
abbrev S1x32x16 : Shape := ⟨3, ![1, 32, 16]⟩
abbrev S1 : Shape := ⟨1, ![1]⟩
abbrev S1x1x1 : Shape := ⟨3, ![1, 1, 1]⟩

abbrev nBuf : Table → Nat
  | .hbm => 10
  | .local .tc .vmem => 3
  | .local .scVector .vmem => 5
  | _ => 0

abbrev bufTy : (tb : Table) → Fin (nBuf tb) → BufTy
  | .hbm, ⟨0, _⟩ => ⟨S32x384x384, .f32⟩
  | .hbm, ⟨1, _⟩ => ⟨S32x384x384, .f32⟩
  | .hbm, ⟨2, _⟩ => ⟨S32x384x384, .i32⟩
  | .hbm, ⟨3, _⟩ => ⟨S4718592, .f32⟩
  | .hbm, ⟨4, _⟩ => ⟨S4718592, .f32⟩
  | .hbm, ⟨5, _⟩ => ⟨S4718592, .i32⟩
  | .hbm, ⟨6, _⟩ => ⟨S32x16, .f32⟩
  | .hbm, ⟨7, _⟩ => ⟨S32x16, .i32⟩
  | .hbm, ⟨8, _⟩ => ⟨S1x1, .f32⟩
  | .hbm, ⟨9, _⟩ => ⟨S_, .f32⟩
  | .local .tc .vmem, ⟨0, _⟩ => ⟨S32x16, .f32⟩
  | .local .tc .vmem, ⟨1, _⟩ => ⟨S32x16, .i32⟩
  | .local .tc .vmem, ⟨2, _⟩ => ⟨S1x1, .f32⟩
  | .local .scVector .vmem, ⟨0, _⟩ => ⟨S16384, .f32⟩
  | .local .scVector .vmem, ⟨1, _⟩ => ⟨S16384, .f32⟩
  | .local .scVector .vmem, ⟨2, _⟩ => ⟨S16384, .i32⟩
  | .local .scVector .vmem, ⟨3, _⟩ => ⟨S16, .f32⟩
  | .local .scVector .vmem, ⟨4, _⟩ => ⟨S16, .i32⟩
  | _, _ => ⟨S32x384x384, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_0_scv : Ref sig .scVector := ⟨.hbm, 6, rfl⟩
abbrev main_v3_1_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c9_i32 : BitVec 32 := 9#32
  let v5 : BitVec 32 := Scalar.addi c0_i32_0 c9_i32
  let c1_i32 : BitVec 32 := 1#32
  ⟨c0_i32_0, v5, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c147456_i32 : BitVec 32 := 147456#32
  let v2 : BitVec 32 := Scalar.muli v1 c147456_i32
  let c0_i32_0 : BitVec 32 := 0#32
  let c1_i32 : BitVec 32 := 1#32
  let arg12 : BitVec 32 := Scf.iv c0_i32_0 c1_i32 k0_t1
  let c16384_i32 : BitVec 32 := 16384#32
  let v13 : BitVec 32 := Scalar.muli arg12 c16384_i32
  let v14 : BitVec 32 := Scalar.addi v2 v13
  ![v14.toNat]
@[reducible] def k0_t2_loop : Scf.Loop 32 :=
  let c0_i32_3 : BitVec 32 := 0#32
  let c1024_i32 : BitVec 32 := 1024#32
  let v15 : BitVec 32 := Scalar.addi c0_i32_3 c1024_i32
  let c1_i32_4 : BitVec 32 := 1#32
  ⟨c0_i32_3, v15, c1_i32_4⟩
def k0_off2 (k0_t2 : Fin k0_t2_loop.trips) : Fin 1 → Nat :=
  let c0_i32_3 : BitVec 32 := 0#32
  let c1_i32_4 : BitVec 32 := 1#32
  let arg15 : BitVec 32 := Scf.iv c0_i32_3 c1_i32_4 k0_t2
  let c16_i32 : BitVec 32 := 16#32
  let v17 : BitVec 32 := Scalar.muli arg15 c16_i32
  let v18 : Index := Scalar.indexCast v17
  ![v18.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r3 : BitVec 32 := 0#32
  ![v1.toNat, 0]
abbrev grid1 : Pipeline.Grid := .none

abbrev stage1_0 : Fin 1 → Memref sig .tc .vmem S32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x16 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x384x384 : Shape := ⟨3, ![32, 384, 384]⟩
abbrev S_ : Shape := ⟨0, ![]⟩
abbrev S32 : Shape := ⟨1, ![32]⟩
abbrev S4718592 : Shape := ⟨1, ![4718592]⟩

abbrev nBuf : Space → Nat
  | .hbm => 25
  | .vmem => 0
  | .smem => 0
  | _ => 0

abbrev bufTy : (tb : Table) → Fin (tcTables nBuf tb) → BufTy
  | .hbm, ⟨0, _⟩ => ⟨S32x384x384, .f32⟩
  | .hbm, ⟨1, _⟩ => ⟨S32x384x384, .f32⟩
  | .hbm, ⟨2, _⟩ => ⟨S32x384x384, .i32⟩
  | .hbm, ⟨3, _⟩ => ⟨S_, .i32⟩
  | .hbm, ⟨4, _⟩ => ⟨S32, .i32⟩
  | .hbm, ⟨5, _⟩ => ⟨S32x384x384, .f32⟩
  | .hbm, ⟨6, _⟩ => ⟨S_, .i32⟩
  | .hbm, ⟨7, _⟩ => ⟨S32x384x384, .i32⟩
  | .hbm, ⟨8, _⟩ => ⟨S32x384x384, .i1⟩
  | .hbm, ⟨9, _⟩ => ⟨S32x384x384, .i1⟩
  | .hbm, ⟨10, _⟩ => ⟨S32x384x384, .f32⟩
  | .hbm, ⟨11, _⟩ => ⟨S_, .f32⟩
  | .hbm, ⟨12, _⟩ => ⟨S32x384x384, .f32⟩
  | .hbm, ⟨13, _⟩ => ⟨S32x384x384, .f32⟩
  | .hbm, ⟨14, _⟩ => ⟨S4718592, .f32⟩
  | .hbm, ⟨15, _⟩ => ⟨S4718592, .f32⟩
  | .hbm, ⟨16, _⟩ => ⟨S_, .f32⟩
  | .hbm, ⟨17, _⟩ => ⟨S_, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S32x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.IdealTile.lean ====
/-
  One vector subcore's task, run once at a symbolic pair (SparseCore, subcore), in any float instance.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.ValueKit.Geometry
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes, the finishing kernel's windows, the transfers' counters -/

abbrev UH : Type := URounds (GSem nD τ sig) ℕ
abbrev UW : Type := UR sig nD τ × Counters
abbrev UU : Type := UH × UW

local notation "𝕄" => MT nD τ sig (HIx 1) (Elt F) ℕ UU ℕ

abbrev EH : Emb UH (MT nD τ sig (HIx 1) (Elt F) ℕ UU ℕ) := embL

/-! ## The arrays -/

abbrev pLoc (d : Dev nD) : Loc nD τ sig := (SparseCore.T d).loc main_v0
abbrev tLoc (d : Dev nD) : Loc nD τ sig := (SparseCore.T d).loc main_v1
abbrev mLoc (d : Dev nD) : Loc nD τ sig := (SparseCore.T d).loc main_v2
abbrev nLoc (d : Dev nD) : Loc nD τ sig := (SparseCore.T d).loc main_v3_0
abbrev cLoc (d : Dev nD) : Loc nD τ sig := (SparseCore.T d).loc main_v3_1

abbrev pV : Memref sig .scVector .hbm S4718592 .f32 := Memref.whole main_v0_scv
abbrev tV : Memref sig .scVector .hbm S4718592 .f32 := Memref.whole main_v1_scv
abbrev mV : Memref sig .scVector .hbm S4718592 .i32 := Memref.whole main_v2_scv
abbrev nV : Memref sig .scVector .hbm S32x16 .f32 := Memref.whole main_v3_0_scv
abbrev cV : Memref sig .scVector .hbm S32x16 .i32 := Memref.whole main_v3_1_scv
abbrev s0 : Memref sig .scVector .vmem S16384 .f32 := Memref.whole cc0_scratch0
abbrev s1 : Memref sig .scVector .vmem S16384 .f32 := Memref.whole cc0_scratch1
abbrev s2 : Memref sig .scVector .vmem S16384 .i32 := Memref.whole cc0_scratch2
abbrev s3 : Memref sig .scVector .vmem S16 .f32 := Memref.whole cc0_scratch3
abbrev s4 : Memref sig .scVector .vmem S16 .i32 := Memref.whole cc0_scratch4

/-! ## The value -/

/-- The flat index `16 * n + l` of share `w`. -/
def at16 (w n : ℕ) (l : S16.Idx) : S4718592.Idx :=
  fun | 0 => ⟨(147456 * w + 16 * n + (l 0).val) % 4718592, Nat.mod_lt (147456 * w + 16 * n + (l 0).val) (show 0 < 4718592 by decide)⟩

/-- Place `j` of chunk `k` of share `w`. -/
def atC (w k : ℕ) (j : S16384.Idx) : S4718592.Idx :=
  fun | 0 => ⟨(147456 * w + 16384 * k + (j 0).val) % 4718592, Nat.mod_lt (147456 * w + 16384 * k + (j 0).val) (show 0 < 4718592 by decide)⟩

/-- The lane sums of share `w` after its first `n` groups of sixteen elements. -/
def part (x y : FVec F S4718592 .f32) (z : IVec S4718592 32) (w : ℕ) : ℕ → FVec F S16 .f32 × IVec S16 32
  | 0 => (k0_pay1, k0_pay2)
  | n + 1 => (k0_pay4 (part x y z w n).1 (fun l => x (at16 w n l)) (fun l => y (at16 w n l)) (fun l => z (at16 w n l)),
      k0_pay5 (F := F) (part x y z w n).2 (fun l => z (at16 w n l)))

/-- The lane sums of every share, a row for a share. -/
def NUM (x y : FVec F S4718592 .f32) (z : IVec S4718592 32) : FVec F S32x16 .f32 :=
  fun j => (part x y z (j 0).val 9216).1 (fun | 0 => j 1)
/-- The lane counts of every share. -/
def CNT (x y : FVec F S4718592 .f32) (z : IVec S4718592 32) : IVec S32x16 32 :=
  fun j => (part x y z (j 0).val 9216).2 (fun | 0 => j 1)

/-! ## The geometry of one trip -/

section Geometry

/-- A buffer written whole holds what was written. -/
theorem writes_scr {κ : Kind} {Val : EltTy → Type} (b : Ref sig κ) (f w : b.ty.Contents Val) :
    (View.whole b).writes Val f [⟨Rect.whole b.ty.shape, w⟩] = w := by
  have h := View.read_writes_whole (View.whole b) f w
  rwa [View.read_whole] at h

variable (L : grid0.Coords) (k : Fin k0_t1_loop.trips) (i : Fin k0_t2_loop.trips)

abbrev rectC : Rect S4718592 := Rect.unit (s := S4718592) (k0_off1 L k) S16384.size (k0_off1_inb L k)
abbrev rectV : Rect S16384 := Rect.unit (s := S16384) (k0_off2 i) S16.size (k0_off2_inb i)

theorem trips1 : k0_t1_loop.trips = 9 := by decide
theorem trips2 : k0_t2_loop.trips = 1024 := by decide

/-- The chunk's rectangle places `j` where the share's chunk does. -/
theorem emb_rectC (j : S16384.Idx) : (rectC L k).emb j = atC (2 * (L 1).val + (L 0).val) k.val j := by
  have h1 : (L 1).val < 16 := (L 1).isLt
  have h0 : (L 0).val < 2 := (L 0).isLt
  have hk : k.val < 9 := lt_of_lt_of_eq k.isLt trips1
  have hj : (j 0).val < 16384 := (j 0).isLt
  funext a
  match a with
  | 0 =>
    apply Fin.ext
    rw [ValueKit.rect_emb_unit_val]
    show k0_off1 L k 0 + (j 0).val = (147456 * (2 * (L 1).val + (L 0).val) + 16384 * k.val + (j 0).val) % 4718592
    rw [k0_off1_eq, Nat.mod_eq_of_lt (by omega)]
    simp
    omega

/-- A trip's vector, laid in its chunk, is group `1024 * k + i` of the share. -/
theorem atC_emb_rectV (w kk : ℕ) (l : S16.Idx) : atC w kk ((rectV i).emb l) = at16 w (1024 * kk + i.val) l := by
  funext a
  match a with
  | 0 =>
    apply Fin.ext
    have e : (((rectV i).emb l) 0).val = 16 * i.val + (l 0).val := by
      rw [ValueKit.rect_emb_unit_val]
      show k0_off2 i 0 + (l 0).val = _
      rw [k0_off2_eq]; simp
    show (147456 * w + 16384 * kk + (((rectV i).emb l) 0).val) % 4718592 = (147456 * w + 16 * (1024 * kk + i.val) + (l 0).val) % 4718592
    rw [e]
    congr 1
    omega

/-- A store over the whole of a buffer's shape lands what it stores. -/
theorem read_store {κ : Kind} {sp : Space} {e : EltTy} (v : View sig κ sp S16 e) (f : v.ty.Contents (Elt F)) (w : S16.Idx → Elt F e) :
    v.read (Elt F) (v.writes (Elt F) f [⟨Rect.unit (s := S16) ![0] S16.size inb_S16_S16_0, w⟩]) = w := by
  funext l
  have h := View.read_writes_cons_emb v f (Rect.unit (s := S16) ![0] S16.size inb_S16_S16_0) w [] l
  have e : (Rect.unit (s := S16) ![0] S16.size inb_S16_S16_0).emb l = l := by
    funext a
    match a with
    | 0 => apply Fin.ext; rw [ValueKit.rect_emb_unit_val]; simp
  rwa [e] at h

/-- The squeeze of a row keeps the lane's number. -/
theorem lane_squeeze : ∀ l : S16.Idx, ((Shape.reshapeEquiv (s := S1x16) (s' := S16) squeezes_S1x16_S16.numel_eq) l 1).val = (l 0).val := by
  decide

abbrev rowK : Rect S32x16 := Rect.unit (s := S32x16) (k0_off3 L) S1x16.size (k0_off3_inb L)

/-- Where a subcore's row places lane `l`. -/
theorem emb_row (l : S16.Idx) :
    (((rowK L).emb ((Shape.reshapeEquiv (s := S1x16) (s' := S16) squeezes_S1x16_S16.numel_eq) l) 0).val = 2 * (L 1).val + (L 0).val)
      ∧ ((rowK L).emb ((Shape.reshapeEquiv (s := S1x16) (s' := S16) squeezes_S1x16_S16.numel_eq) l) 1).val = (l 0).val := by
  constructor
  · rw [ValueKit.rect_emb_unit_val]
    show k0_off3 L 0 + ((Shape.reshapeEquiv (s := S1x16) (s' := S16) squeezes_S1x16_S16.numel_eq) l 0).val = _
    have h : ((Shape.reshapeEquiv (s := S1x16) (s' := S16) squeezes_S1x16_S16.numel_eq) l 0).val < 1 := ((Shape.reshapeEquiv (s := S1x16) (s' := S16) squeezes_S1x16_S16.numel_eq) l 0).isLt
    rw [k0_off3_eq]; simp
  · rw [ValueKit.rect_emb_unit_val]
    show k0_off3 L 1 + ((Shape.reshapeEquiv (s := S1x16) (s' := S16) squeezes_S1x16_S16.numel_eq) l 1).val = _
    rw [lane_squeeze, k0_off3_eq]; simp

theorem NUM_row (x y : FVec F S4718592 .f32) (z : IVec S4718592 32) (l : S16.Idx) :
    NUM x y z ((rowK L).emb ((Shape.reshapeEquiv (s := S1x16) (s' := S16) squeezes_S1x16_S16.numel_eq) l)) = (part x y z (2 * (L 1).val + (L 0).val) 9216).1 l := by
  unfold NUM
  rw [(emb_row L l).1]
  refine congrArg (part x y z (2 * (L 1).val + (L 0).val) 9216).1 (funext fun a => ?_)
  match a with
  | 0 => exact Fin.ext (emb_row L l).2

theorem CNT_row (x y : FVec F S4718592 .f32) (z : IVec S4718592 32) (l : S16.Idx) :
    CNT x y z ((rowK L).emb ((Shape.reshapeEquiv (s := S1x16) (s' := S16) squeezes_S1x16_S16.numel_eq) l)) = (part x y z (2 * (L 1).val + (L 0).val) 9216).2 l := by
  unfold CNT
  rw [(emb_row L l).1]
  refine congrArg (part x y z (2 * (L 1).val + (L 0).val) 9216).2 (funext fun a => ?_)
  match a with
  | 0 => exact Fin.ext (emb_row L l).2

end Geometry

section Tile

variable (d : Dev nD) (L : grid0.Coords)

abbrev cV' (L : grid0.Coords) : Fin τ.nSC := (L 0).castLE hcore0
abbrev jV (L : grid0.Coords) : Fin τ.nSub := (L 1).castLE hsub0
abbrev VT (d : Dev nD) (L : grid0.Coords) : Thread nD τ := V d (cV' L) (jV L)
/-- The share of the elements that the subcore sums. -/
abbrev wid (L : grid0.Coords) : ℕ := 2 * (L 1).val + (L 0).val

abbrev nRow (L : grid0.Coords) : Memref sig .scVector .hbm S16 .f32 := (nV.slice (rowK L) (fun _ => rfl)).squeeze S16 squeezes_S1x16_S16
abbrev cRow (L : grid0.Coords) : Memref sig .scVector .hbm S16 .i32 := (cV.slice (rowK L) (fun _ => rfl)).squeeze S16 squeezes_S1x16_S16

abbrev csem (k : Nat) (hk : k < 5 := by decide) : DmaSem sig := ⟨k, by show k < 8; omega⟩

variable (x y : FVec F S4718592 .f32) (z : IVec S4718592 32)

abbrev inv1 (qx qy qz : PosShare TreeShare) (O : CellTallies nD τ sig (HIx 1)) (W : Waits sig (HIx 1)) (k : ℕ) (acc : FVec F S16 .f32 × IVec S16 32) : sProp 𝕄 :=
  iprop(Transfers.MayWaits (VT d L) (default : HIx 1) O
    ∗ (pV.view.loc (VT d L) ↦{qx} x) ∗ (tV.view.loc (VT d L) ↦{qy} y) ∗ (mV.view.loc (VT d L) ↦{qz} z)
    ∗ (∃ g, s0.view.loc (VT d L) ↦[s0.view.set]{fullShare} g) ∗ (∃ g, s1.view.loc (VT d L) ↦[s1.view.set]{fullShare} g) ∗ (∃ g, s2.view.loc (VT d L) ↦[s2.view.set]{fullShare} g)
    ∗ semVal (VT d L, SemLoc.dma (csem 0)) 0 ∗ semVal (VT d L, SemLoc.dma (csem 1)) 0 ∗ semVal (VT d L, SemLoc.dma (csem 2)) 0
    ∗ ⌜acc = part x y z (wid L) (1024 * k)⌝ ∗ ∃ W', ⌜∀ p ∈ W', p ∈ W ∨ p.2 = none⌝ ∗ owes (VT d L) O W')

abbrev inv2 (k : ℕ) (i : ℕ) (acc : FVec F S16 .f32 × IVec S16 32) : sProp 𝕄 :=
  iprop(∃ f0 f1 f2, (s0.view.loc (VT d L) ↦[s0.view.set]{fullShare} f0) ∗ (s1.view.loc (VT d L) ↦[s1.view.set]{fullShare} f1) ∗ (s2.view.loc (VT d L) ↦[s2.view.set]{fullShare} f2)
    ∗ ⌜(∀ j, f0 j = x (atC (wid L) k j)) ∧ (∀ j, f1 j = y (atC (wid L) k j)) ∧ (∀ j, f2 j = z (atC (wid L) k j)) ∧ acc = part x y z (wid L) (1024 * k + i)⌝)

theorem tile_run (O : CellTallies nD τ sig (HIx 1)) (W : Waits sig (HIx 1)) (qx qy qz : PosShare TreeShare)
    (g0 : Buf (Elt F) (s0.view.loc (VT d L))) (g1 : Buf (Elt F) (s1.view.loc (VT d L))) (g2 : Buf (Elt F) (s2.view.loc (VT d L)))
    (g3 : Buf (Elt F) (s3.view.loc (VT d L))) (g4 : Buf (Elt F) (s4.view.loc (VT d L)))
    (fn : Buf (Elt F) ((nRow L).view.loc (VT d L))) (fc : Buf (Elt F) ((cRow L).view.loc (VT d L))) :
    (iprop(Transfers.MayWaits (VT d L) (default : HIx 1) O
        ∗ (pV.view.loc (VT d L) ↦{qx} x) ∗ (tV.view.loc (VT d L) ↦{qy} y) ∗ (mV.view.loc (VT d L) ↦{qz} z)
        ∗ ((nRow L).view.loc (VT d L) ↦[(nRow L).view.set]{fullShare} fn)
        ∗ ((cRow L).view.loc (VT d L) ↦[(cRow L).view.set]{fullShare} fc)
        ∗ (s0.view.loc (VT d L) ↦[s0.view.set]{fullShare} g0) ∗ (s1.view.loc (VT d L) ↦[s1.view.set]{fullShare} g1) ∗ (s2.view.loc (VT d L) ↦[s2.view.set]{fullShare} g2)
        ∗ (s3.view.loc (VT d L) ↦[s3.view.set]{fullShare} g3) ∗ (s4.view.loc (VT d L) ↦[s4.view.set]{fullShare} g4)
        ∗ semVal (VT d L, SemLoc.dma (csem 0)) 0 ∗ semVal (VT d L, SemLoc.dma (csem 1)) 0 ∗ semVal (VT d L, SemLoc.dma (csem 2)) 0
        ∗ semVal (VT d L, SemLoc.dma (csem 3)) 0 ∗ semVal (VT d L, SemLoc.dma (csem 4)) 0
        ∗ owes (VT d L) O W) : sProp 𝕄)
      ⊢ wp frame (wpE (defs₀ (F := F)) 𝒱₀ (VT d L) none) Set.univ
          (cc0_k L pV (Memref.isWhole_whole _) tV (Memref.isWhole_whole _) mV (Memref.isWhole_whole _) nV (Memref.isWhole_whole _) cV (Memref.isWhole_whole _)
            s0 (Memref.isWhole_whole _) s1 (Memref.isWhole_whole _) s2 (Memref.isWhole_whole _) s3 (Memref.isWhole_whole _) s4 (Memref.isWhole_whole _)
            cc0_scoped0 cc0_scoped1 cc0_scoped2 cc0_scoped3 cc0_scoped4)
          fun _ => iprop((pV.view.loc (VT d L) ↦{qx} x) ∗ (tV.view.loc (VT d L) ↦{qy} y) ∗ (mV.view.loc (VT d L) ↦{qz} z)
            ∗ ((nRow L).view.loc (VT d L) ↦[(nRow L).view.set]{fullShare} NUM x y z)
            ∗ ((cRow L).view.loc (VT d L) ↦[(cRow L).view.set]{fullShare} CNT x y z)
            ∗ (∃ g, s0.view.loc (VT d L) ↦[s0.view.set]{fullShare} g) ∗ (∃ g, s1.view.loc (VT d L) ↦[s1.view.set]{fullShare} g) ∗ (∃ g, s2.view.loc (VT d L) ↦[s2.view.set]{fullShare} g)
            ∗ (∃ g, s3.view.loc (VT d L) ↦[s3.view.set]{fullShare} g) ∗ (∃ g, s4.view.loc (VT d L) ↦[s4.view.set]{fullShare} g)
            ∗ semVal (VT d L, SemLoc.dma (csem 0)) 0 ∗ semVal (VT d L, SemLoc.dma (csem 1)) 0 ∗ semVal (VT d L, SemLoc.dma (csem 2)) 0
            ∗ semVal (VT d L, SemLoc.dma (csem 3)) 0 ∗ semVal (VT d L, SemLoc.dma (csem 4)) 0
            ∗ ∃ W', ⌜∀ p ∈ W', p ∈ W ∨ p.2 = none⌝ ∗ owes (VT d L) O W') := by
  iintro ⟨#Hmw, HX, HY, HZ, HN, HC, H0, H1, H2, H3, H4, Hc0, Hc1, Hc2, Hc3, Hc4, HO⟩
  sl_unfold [cc0_k]
  sl_exec
  sl_for (inv1 d L x y z qx qy qz O W) $$ [Hmw HX HY HZ H0 H1 H2 Hc0 Hc1 Hc2 HO]
  case region =>
    intro k acc
    unfold inv1
    iintro ⟨Hmw, HX, HY, HZ, ⟨%f0, H0⟩, ⟨%f1, H1⟩, ⟨%f2, H2⟩, Hc0, Hc1, Hc2, %hacc, %W', %hW', HO⟩
    sl_exec
    sl_for (inv2 d L x y z k) $$ [H0 H1 H2]
    case region =>
      intro i acc2
      unfold inv2
      iintro ⟨%f0, %f1, %f2, H0, H1, H2, %hf⟩
      sl_exec
      sl_step
      iexists f0, f1, f2
      isplitl [H0]
      · iexact H0
      isplitl [H1]
      · iexact H1
      isplitl [H2]
      · iexact H2
      ipureintro
      obtain ⟨h0, h1, h2, rfl⟩ := hf
      refine ⟨h0, h1, h2, ?_⟩
      rw [← Nat.add_assoc]
      show _ = (_, _)
      have e0 : View.readAt (Elt F) s0.view (rectV i).toLoadRect f0 = fun l => x (at16 (wid L) (1024 * k.val + i.val) l) := by
        funext l; rw [← atC_emb_rectV]; exact h0 _
      have e1 : View.readAt (Elt F) s1.view (rectV i).toLoadRect f1 = fun l => y (at16 (wid L) (1024 * k.val + i.val) l) := by
        funext l; rw [← atC_emb_rectV]; exact h1 _
      have e2 : View.readAt (Elt F) s2.view (rectV i).toLoadRect f2 = fun l => z (at16 (wid L) (1024 * k.val + i.val) l) := by
        funext l; rw [← atC_emb_rectV]; exact h2 _
      rw [e0, e1, e2]
    · unfold inv2
      iexists _, _, _
      isplitl [H0]
      · iexact H0
      isplitl [H1]
      · iexact H1
      isplitl [H2]
      · iexact H2
      ipureintro
      refine ⟨fun j => ?_, fun j => ?_, fun j => ?_, hacc⟩
      · refine (congrFun (writes_scr cc0_scratch0 _ (tile_run.sl.dma0 L x k)) j).trans ?_
        unfold tile_run.sl.dma0
        exact congrArg x (emb_rectC L k j)
      · refine (congrFun (writes_scr cc0_scratch1 _ (tile_run.sl.dma0_1 L y k)) j).trans ?_
        unfold tile_run.sl.dma0_1
        exact congrArg y (emb_rectC L k j)
      · refine (congrFun (writes_scr cc0_scratch2 _ (tile_run.sl.dma0_2 L z k)) j).trans ?_
        unfold tile_run.sl.dma0_2
        exact congrArg z (emb_rectC L k j)
    iintro %acc' HI
    unfold inv2
    icases HI with ⟨%f0, %f1, %f2, H0, H1, H2, %hf⟩
    sl_exec
    sl_step
    obtain ⟨-, -, -, hacc'⟩ := hf
    isplitl [Hmw]
    · iexact Hmw
    isplitl [HX]
    · iexact HX
    isplitl [HY]
    · iexact HY
    isplitl [HZ]
    · iexact HZ
    isplitl [H0]
    · iexists _; iexact H0
    isplitl [H1]
    · iexists _; iexact H1
    isplitl [H2]
    · iexists _; iexact H2
    isplitl [Hc0]
    · iexact Hc0
    isplitl [Hc1]
    · iexact Hc1
    isplitl [Hc2]
    · iexact Hc2
    isplitl []
    · ipureintro
      rw [show 1024 * (k.val + 1) = 1024 * k.val + Scf.trips k0_t2_loop.lb k0_t2_loop.ub k0_t2_loop.st from
        (by rw [show Scf.trips k0_t2_loop.lb k0_t2_loop.ub k0_t2_loop.st = 1024 from trips2]; omega), ← hacc']
    iexists _
    isplitl []
    swap
    · iexact HO
    ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    exact hW' p hp
  · unfold inv1
    isplitl [Hmw]
    · iexact Hmw
    isplitl [HX]
    · iexact HX
    isplitl [HY]
    · iexact HY
    isplitl [HZ]
    · iexact HZ
    isplitl [H0]
    · iexists _; iexact H0
    isplitl [H1]
    · iexists _; iexact H1
    isplitl [H2]
    · iexists _; iexact H2
    isplitl [Hc0]
    · iexact Hc0
    isplitl [Hc1]
    · iexact Hc1
    isplitl [Hc2]
    · iexact Hc2
    isplitl []
    · ipureintro
      rfl
    iexists W
    isplitl []
    · ipureintro
      exact fun p hp => .inl hp
    iexact HO
  iintro %acc HI
  unfold inv1
  icases HI with ⟨-, HX, HY, HZ, ⟨%f0, H0⟩, ⟨%f1, H1⟩, ⟨%f2, H2⟩, Hc0, Hc1, Hc2, %hacc, %W', %hW', HO⟩
  sl_exec
  sl_step
  rw [show Scf.trips k0_t1_loop.lb k0_t1_loop.ub k0_t1_loop.st = 9 from trips1] at hacc
  have hN : ((nRow L).view.loc (VT d L) ↦[(nRow L).view.set]{fullShare} (nRow L).view.writes (Elt F) fn [⟨Rect.whole S16, tile_run.sl.dma4 d L g3 acc⟩] : sProp 𝕄)
      = (nRow L).view.loc (VT d L) ↦[(nRow L).view.set]{fullShare} NUM x y z := pointsTo_congr (by
      intro j hj
      obtain ⟨l, -, rfl⟩ := Finset.mem_map.mp hj
      refine (congrFun (View.read_writes_whole (nRow L).view fn (tile_run.sl.dma4 d L g3 acc)) l).trans ?_
      refine Eq.trans ?_ (NUM_row L x y z l).symm
      unfold tile_run.sl.dma4 tile_run.sl.H3_1
      refine (congrFun (read_store s3.view g3 _) l).trans ?_
      show shapeCast S16 acc.1 shapeCasts_S16_S16 l = _
      rw [hacc]
      simp only [shapeCast, Shape.reshapeEquiv_self])
  have hC : ((cRow L).view.loc (VT d L) ↦[(cRow L).view.set]{fullShare} (cRow L).view.writes (Elt F) fc [⟨Rect.whole S16, tile_run.sl.dma4_1 d L g4 acc⟩] : sProp 𝕄)
      = (cRow L).view.loc (VT d L) ↦[(cRow L).view.set]{fullShare} CNT x y z := pointsTo_congr (by
      intro j hj
      obtain ⟨l, -, rfl⟩ := Finset.mem_map.mp hj
      refine (congrFun (View.read_writes_whole (cRow L).view fc (tile_run.sl.dma4_1 d L g4 acc)) l).trans ?_
      refine Eq.trans ?_ (CNT_row L x y z l).symm
      unfold tile_run.sl.dma4_1 tile_run.sl.H4_1
      refine (congrFun (read_store s4.view g4 _) l).trans ?_
      show shapeCast S16 acc.2 shapeCasts_S16_S16 l = _
      rw [hacc]
      simp only [shapeCast, Shape.reshapeEquiv_self])
  isplitl [HX]
  · iexact HX
  isplitl [HY]
  · iexact HY
  isplitl [HZ]
  · iexact HZ
  isplitl [HN]
  · iapply (Entails.of_eq hN) $$ HN
  isplitl [HC]
  · iapply (Entails.of_eq hC) $$ HC
  isplitl [H0]
  · iexists _; iexact H0
  isplitl [H1]
  · iexists _; iexact H1
  isplitl [H2]
  · iexists _; iexact H2
  isplitl [H3]
  · iexists _; iexact H3
  isplitl [H4]
  · iexists _; iexact H4
  isplitl [Hc0]
  · iexact Hc0
  isplitl [Hc1]
  · iexact Hc1
  isplitl [Hc2]
  · iexact Hc2
  isplitl [Hc3]
  · iexact Hc3
  isplitl [Hc4]
  · iexact Hc4
  iexists _
  isplitl []
  swap
  · iexact HO
  ipureintro
  intro p hp
  rcases Finset.mem_insert.mp hp with rfl | hp
  · exact .inr rfl
  rcases Finset.mem_insert.mp hp with rfl | hp
  · exact .inr rfl
  exact hW' p hp

end Tile

end Cert.Proof.KernelIdealRun

end
-- ==== Proof.IdealSc.lean ====
/-
  What the launch hands each tile, and each tile's task from it.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.ValueKit.Geometry
public import Idealize.ShloMosaic.Lib.Tactic
public import proofs.«01_k».proof.Proof.IdealTile
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The arrays the tiles read, and what each tile is handed -/

abbrev aLoc (d : Dev nD) : Loc nD τ sig := (SparseCore.T d).loc main_arg0
abbrev bLoc (d : Dev nD) : Loc nD τ sig := (SparseCore.T d).loc main_arg1
abbrev kLoc (d : Dev nD) : Loc nD τ sig := (SparseCore.T d).loc main_arg2

/-- The predictions, flat. -/
def X0 (d : Dev nD) : FVec F S4718592 .f32 := shapeCast S4718592 (s := S32x384x384) (m (aLoc d)) shapeCasts_S32x384x384_S4718592
/-- The targets, flat. -/
def Y0 (d : Dev nD) : FVec F S4718592 .f32 := shapeCast S4718592 (s := S32x384x384) (m (bLoc d)) shapeCasts_S32x384x384_S4718592
/-- The mask, flat. -/
def Z0 (d : Dev nD) : IVec S4718592 32 := shapeCast S4718592 (s := S32x384x384) (m (kLoc d)) shapeCasts_S32x384x384_S4718592

/-- The rows' sums of the launch memory. -/
abbrev NUM0 (d : Dev nD) : FVec F S32x16 .f32 := NUM (X0 m d) (Y0 m d) (Z0 m d)
/-- The rows' counts of the launch memory. -/
abbrev CNT0 (d : Dev nD) : IVec S32x16 32 := CNT (X0 m d) (Y0 m d) (Z0 m d)

/-- Share `w`'s read share of the flat arrays. -/
abbrev sh (w : Fin 32) : PosShare TreeShare := Transfers.dealOf fullShare (Finset.univ : Finset (Fin 32)) w
/-- Row `w` of the partial sums. -/
def rowSet (w : Fin 32) : Finset S32x16.Idx := Finset.univ.filter fun j => (j 0).val = w.val

/-- The share a pair (SparseCore, subcore) works on. -/
def wOf (p : Fin 2 × Fin 16) : Fin 32 := ⟨2 * p.2.val + p.1.val, by have := p.1.isLt; have := p.2.isLt; omega⟩
def wEquiv : Fin 2 × Fin 16 ≃ Fin 32 where
  toFun := wOf
  invFun w := (⟨w.val % 2, Nat.mod_lt _ (by decide)⟩, ⟨w.val / 2, by have := w.isLt; omega⟩)
  left_inv p := by
    have h1 := p.1.isLt
    refine Prod.ext (Fin.ext ?_) (Fin.ext ?_)
    · show (2 * p.2.val + p.1.val) % 2 = p.1.val; omega
    · show (2 * p.2.val + p.1.val) / 2 = p.2.val; omega
  right_inv w := Fin.ext (show 2 * (w.val / 2) + w.val % 2 = w.val by omega)

/-- What a tile holds: a read share of each flat array, and its row of the sums and of the counts. -/
def forTile (d : Dev nD) (gn : Buf (Elt F) (nLoc d)) (gc : Buf (Elt F) (cLoc d)) (w : Fin 32) : sProp 𝕄 :=
  iprop((pLoc d ↦{sh w} X0 m d) ∗ (tLoc d ↦{sh w} Y0 m d) ∗ (mLoc d ↦{sh w} Z0 m d)
    ∗ (nLoc d ↦[rowSet w]{fullShare} gn) ∗ (cLoc d ↦[rowSet w]{fullShare} gc))

/-- What a SparseCore holds: its sixteen tiles' pieces. -/
def forCore (d : Dev nD) (gn : Buf (Elt F) (nLoc d)) (gc : Buf (Elt F) (cLoc d)) (c : Fin 2) : sProp 𝕄 :=
  bigSep Finset.univ fun i : Fin 16 => forTile m d gn gc (wOf (c, i))

instance forTile_storable (d : Dev nD) (gn : Buf (Elt F) (nLoc d)) (gc : Buf (Elt F) (cLoc d)) (w : Fin 32) :
    BI.Storable (upEmb : UEmb _ 𝕄) (forTile m d gn gc w) := by
  unfold forTile; infer_instance
instance forCore_storable (d : Dev nD) (gn : Buf (Elt F) (nLoc d)) (gc : Buf (Elt F) (cLoc d)) (c : Fin 2) :
    BI.Storable (upEmb : UEmb _ 𝕄) (forCore m d gn gc c) := by
  unfold forCore; infer_instance

/-- What the handshakes carry. -/
def P : (K (F := F)).Pay (nD := nD) (Val := Elt F) (Name := ℕ) (U := UU) where
  st := fun q d c => match q with | 0 => forCore m d (m (nLoc d)) (m (cLoc d)) (Fin.cast nCore_zero c)
  dn := fun q d c => match q with | 0 => forCore m d (NUM0 m d) (CNT0 m d) (Fin.cast nCore_zero c)
  go := fun q d c i => match q with | 0 => forTile m d (m (nLoc d)) (m (cLoc d)) (wOf (Fin.cast nCore_zero c, Fin.cast nSub_zero i))
  td := fun q d c i => match q with | 0 => forTile m d (NUM0 m d) (CNT0 m d) (wOf (Fin.cast nCore_zero c, Fin.cast nSub_zero i))
  x := fun _ _ => iprop(emp)

instance P_storable : (P (F := F) m).IsStorable where
  st q d c := match q with | 0 => forCore_storable m d _ _ _
  dn q d c := match q with | 0 => forCore_storable m d _ _ _
  go q d c i := match q with | 0 => forTile_storable m d _ _ _
  td q d c i := match q with | 0 => forTile_storable m d _ _ _

/-! ## The rows -/

theorem rows_disjoint : ∀ w ∈ (Finset.univ : Finset (Fin 32)), ∀ w' ∈ (Finset.univ : Finset (Fin 32)), w ≠ w' → Disjoint (rowSet w) (rowSet w') := by
  intro w _ w' _ h
  rw [Finset.disjoint_left]
  intro j hj hj'
  exact h (Fin.ext ((Finset.mem_filter.mp hj).2.symm.trans (Finset.mem_filter.mp hj').2))

theorem rows_cover : (Finset.univ : Finset (Fin 32)).biUnion rowSet = Finset.univ := by
  refine Finset.eq_univ_of_forall fun j => Finset.mem_biUnion.mpr ⟨⟨(j 0).val, (j 0).isLt⟩, Finset.mem_univ _, ?_⟩
  exact Finset.mem_filter.mpr ⟨Finset.mem_univ _, rfl⟩

/-- The sixteen lanes of the row a tile slices are the row of its share. -/
theorem mem_row (L : grid0.Coords) (j : S32x16.Idx) :
    (∃ l : S16.Idx, (rowK L).emb ((Shape.reshapeEquiv (s := S1x16) (s' := S16) squeezes_S1x16_S16.numel_eq) l) = j) ↔ (j 0).val = 2 * (L 1).val + (L 0).val := by
  constructor
  · rintro ⟨l, rfl⟩
    exact (emb_row L l).1
  · intro h
    let l : S16.Idx := fun | 0 => ⟨(j 1).val, (j 1).isLt⟩
    refine ⟨l, funext fun a => ?_⟩
    match a with
    | 0 => exact Fin.ext ((emb_row L l).1.trans h.symm)
    | 1 => exact Fin.ext (emb_row L l).2

variable (d : Dev nD)

/-- All the tiles' pieces are the flat arrays, the sums and the counts, each whole. -/
theorem tiles_eq (gn : Buf (Elt F) (nLoc d)) (gc : Buf (Elt F) (cLoc d)) :
    (bigSep Finset.univ fun w : Fin 32 => forTile m d gn gc w)
      = (iprop((pLoc d ↦{fullShare} X0 m d) ∗ (tLoc d ↦{fullShare} Y0 m d) ∗ (mLoc d ↦{fullShare} Z0 m d)
          ∗ (nLoc d ↦{fullShare} gn) ∗ (cLoc d ↦{fullShare} gc)) : sProp 𝕄) := by
  unfold forTile
  rw [bigSep_sep', bigSep_sep', bigSep_sep', bigSep_sep',
    ← Transfers.pointsTo_deal Finset.univ Finset.univ_nonempty fullShare,
    ← Transfers.pointsTo_deal Finset.univ Finset.univ_nonempty fullShare,
    ← Transfers.pointsTo_deal Finset.univ Finset.univ_nonempty fullShare,
    ← pointsTo_biUnion Finset.univ (ℓ := nLoc d) rowSet rows_disjoint,
    ← pointsTo_biUnion Finset.univ (ℓ := cLoc d) rowSet rows_disjoint, rows_cover]

/-- The two SparseCores' pieces are the tiles'. -/
theorem cores_eq (gn : Buf (Elt F) (nLoc d)) (gc : Buf (Elt F) (cLoc d)) :
    (bigSep Finset.univ fun c : Fin 2 => forCore m d gn gc c) = bigSep Finset.univ fun w : Fin 32 => forTile m d gn gc w := by
  unfold forCore
  rw [bigSep_univ_equiv wEquiv (fun w => forTile m d gn gc w), bigSep_univ_prod]
  rfl

theorem core_tasks (gn : Buf (Elt F) (nLoc d)) (gc : Buf (Elt F) (cLoc d)) (c : Fin 2) :
    (bigSep Finset.univ fun i : Fin ((K (F := F)).nSub 0) => forTile m d gn gc (wOf (c, Fin.cast nSub_zero i))) = forCore m d gn gc c := rfl

theorem vecSplit : (K (F := F)).VecSplit' (P m) 0 := by
  intro d c
  show forCore m d (m (nLoc d)) (m (cLoc d)) (Fin.cast nCore_zero c) ⊢ |={Set.univ}=> iprop(
      (bigSep Finset.univ fun i : Fin ((K (F := F)).nSub 0) => forTile m d (m (nLoc d)) (m (cLoc d)) (wOf (Fin.cast nCore_zero c, Fin.cast nSub_zero i)))
      ∗ ((bigSep Finset.univ fun i : Fin ((K (F := F)).nSub 0) => forTile m d (NUM0 m d) (CNT0 m d) (wOf (Fin.cast nCore_zero c, Fin.cast nSub_zero i)))
        -∗ forCore m d (NUM0 m d) (CNT0 m d) (Fin.cast nCore_zero c)))
  rw [core_tasks, core_tasks]
  iintro H
  imodintro
  isplitl [H]
  · iexact H
  iintro H
  iexact H

/-! ## A tile's task from what it is handed -/

section Tile

variable (L : grid0.Coords)

abbrev wL (L : grid0.Coords) : Fin 32 := wOf (⟨(L 0).val, (L 0).isLt⟩, ⟨(L 1).val, (L 1).isLt⟩)

theorem set_nRow : (nRow L).view.set = rowSet (wL L) := by
  ext j
  refine Iff.trans ?_ ((mem_row L j).trans ?_)
  · exact ⟨fun h => (Finset.mem_map.mp h).imp fun l hl => hl.2, fun ⟨l, hl⟩ => Finset.mem_map.mpr ⟨l, Finset.mem_univ _, hl⟩⟩
  · exact ⟨fun h => Finset.mem_filter.mpr ⟨Finset.mem_univ _, h⟩, fun h => (Finset.mem_filter.mp h).2⟩
theorem set_cRow : (cRow L).view.set = rowSet (wL L) := set_nRow L

theorem pts_nRow (f : Buf (Elt F) (nLoc d)) :
    ((nRow L).view.loc (VT d L) ↦[(nRow L).view.set]{fullShare} f : sProp 𝕄) = nLoc d ↦[rowSet (wL L)]{fullShare} f := by
  rw [set_nRow]
theorem pts_cRow (f : Buf (Elt F) (cLoc d)) :
    ((cRow L).view.loc (VT d L) ↦[(cRow L).view.set]{fullShare} f : sProp 𝕄) = cLoc d ↦[rowSet (wL L)]{fullShare} f := by
  rw [set_cRow]
theorem pts_s0 (f : Buf (Elt F) ((VT d L).loc cc0_scratch0)) :
    (s0.view.loc (VT d L) ↦[s0.view.set]{fullShare} f : sProp 𝕄) = (VT d L).loc cc0_scratch0 ↦{fullShare} f := by rw [View.set_whole]
theorem pts_s1 (f : Buf (Elt F) ((VT d L).loc cc0_scratch1)) :
    (s1.view.loc (VT d L) ↦[s1.view.set]{fullShare} f : sProp 𝕄) = (VT d L).loc cc0_scratch1 ↦{fullShare} f := by rw [View.set_whole]
theorem pts_s2 (f : Buf (Elt F) ((VT d L).loc cc0_scratch2)) :
    (s2.view.loc (VT d L) ↦[s2.view.set]{fullShare} f : sProp 𝕄) = (VT d L).loc cc0_scratch2 ↦{fullShare} f := by rw [View.set_whole]
theorem pts_s3 (f : Buf (Elt F) ((VT d L).loc cc0_scratch3)) :
    (s3.view.loc (VT d L) ↦[s3.view.set]{fullShare} f : sProp 𝕄) = (VT d L).loc cc0_scratch3 ↦{fullShare} f := by rw [View.set_whole]
theorem pts_s4 (f : Buf (Elt F) ((VT d L).loc cc0_scratch4)) :
    (s4.view.loc (VT d L) ↦[s4.view.set]{fullShare} f : sProp 𝕄) = (VT d L).loc cc0_scratch4 ↦{fullShare} f := by rw [View.set_whole]

/-! ### The tile's own storage: its five transfer semaphores, its five buffers -/

abbrev dcell (k : Fin 5) : GSem nD τ sig := (VT d L, .dma (csem k.val k.isLt))

theorem dcell_mem (k : Fin 5) : dcell d L k ∈ ownCells (VT d L) :=
  mem_ownCells.mpr ⟨rfl, (show ∀ k : Fin 5, (SemLoc.dma (csem k.val k.isLt) : SemLoc sig).isScoped .scVector = true by decide) k⟩

/-- The subcore's semaphores at zero: the five of the task and the rest. -/
theorem ownSems0_V :
    (ownSems0 (VT d L) : sProp 𝕄)
      = iprop((semVal (VT d L, SemLoc.dma (csem 0)) 0 ∗ semVal (VT d L, SemLoc.dma (csem 1)) 0 ∗ semVal (VT d L, SemLoc.dma (csem 2)) 0
          ∗ semVal (VT d L, SemLoc.dma (csem 3)) 0 ∗ semVal (VT d L, SemLoc.dma (csem 4)) 0)
          ∗ bigSep (ownCells (VT d L) \ Finset.univ.image (dcell d L)) fun g => semVal g 0) := by
  have inj : ∀ a ∈ (Finset.univ : Finset (Fin 5)), ∀ b ∈ (Finset.univ : Finset (Fin 5)), dcell d L a = dcell d L b → a = b := by
    intro a _ b _ h
    have h' := congrArg (fun g : GSem nD τ sig => g.2) h
    simp only [SemLoc.dma.injEq, Fin.mk.injEq] at h'
    exact Fin.ext h'
  unfold SparseCore.Cfg.ownSems0
  rw [SparseCore.bigSep_sdiff_split' (t := Finset.univ.image (dcell d L)) (Finset.image_subset_iff.mpr fun k _ => dcell_mem d L k),
    SparseCore.bigSep_image_of_injOn inj, show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

abbrev sref (k : Fin 5) : Ref sig .scVector := match k with | 0 => cc0_scratch0 | 1 => cc0_scratch1 | 2 => cc0_scratch2 | 3 => cc0_scratch3 | 4 => cc0_scratch4
abbrev sdev (k : Fin 5) : DevRef τ sig := (Proc.scVector (cV' L) (jV L)).devRef (sref k)

theorem sdev_mem (k : Fin 5) : sdev L k ∈ ownRefs (τ := τ) (.scVector (cV' L) (jV L)) :=
  match k with
  | 0 | 1 | 2 | 3 | 4 => SparseCore.Cfg.mem_ownRefs_of_owner (p := Proc.scVector (cV' L) (jV L)) rfl

/-- The subcore's buffers: the five of the task and the rest. -/
theorem ownBufs_V :
    (ownBufs (VT d L) : sProp 𝕄)
      = iprop(((∃ f, (VT d L).loc cc0_scratch0 ↦{fullShare} f) ∗ (∃ f, (VT d L).loc cc0_scratch1 ↦{fullShare} f) ∗ (∃ f, (VT d L).loc cc0_scratch2 ↦{fullShare} f)
          ∗ (∃ f, (VT d L).loc cc0_scratch3 ↦{fullShare} f) ∗ (∃ f, (VT d L).loc cc0_scratch4 ↦{fullShare} f))
          ∗ bigSep (ownRefs (τ := τ) (.scVector (cV' L) (jV L)) \ Finset.univ.image (sdev L)) fun b => iprop(∃ f, ((d, b) : Loc nD τ sig) ↦{fullShare} f)) := by
  have inj : ∀ a ∈ (Finset.univ : Finset (Fin 5)), ∀ b ∈ (Finset.univ : Finset (Fin 5)), sdev L a = sdev L b → a = b := by
    intro a _ b _ h
    exact (show ∀ a b : Fin 5, sref a = sref b → a = b by decide) a b (Proc.devRef_injective _ h)
  unfold SparseCore.Cfg.ownBufs
  rw [SparseCore.bigSep_sdiff_split' (t := Finset.univ.image (sdev L)) (Finset.image_subset_iff.mpr fun k _ => sdev_mem L k),
    SparseCore.bigSep_image_of_injOn inj, show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]

theorem tile_body (hF : (K (F := F)).Facts) (O : CellTallies nD τ sig (HIx 1)) (W : Waits sig (HIx 1)) (hO : ∀ g, O g none = 0) :
    iprop(levAts (K (F := F)).L (K (F := F)).lev ∗ emp ∗ forTile m d (m (nLoc d)) (m (cLoc d)) (wL L)
        ∗ scopedBufs (VT d L) ∗ scopedSems0 (VT d L) ∗ owes (VT d L) O W)
      ⊢ wp frame (wpE (defs₀ (F := F)) 𝒱₀ (VT d L) none) Set.univ
          (cc0_k L pV (Memref.isWhole_whole _) tV (Memref.isWhole_whole _) mV (Memref.isWhole_whole _) nV (Memref.isWhole_whole _) cV (Memref.isWhole_whole _)
            s0 (Memref.isWhole_whole _) s1 (Memref.isWhole_whole _) s2 (Memref.isWhole_whole _) s3 (Memref.isWhole_whole _) s4 (Memref.isWhole_whole _)
            cc0_scoped0 cc0_scoped1 cc0_scoped2 cc0_scoped3 cc0_scoped4)
          fun _ => iprop(forTile m d (NUM0 m d) (CNT0 m d) (wL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV' L) (jV L), SparseCore.Cfg.scopedSems0_V (Val := Elt F) d (cV' L) (jV L), ownSems0_V, ownBufs_V]
  unfold forTile
  iintro ⟨#Hlv, -, ⟨HX, HY, HZ, HN, HC⟩, ⟨⟨⟨%g0, H0⟩, ⟨%g1, H1⟩, ⟨%g2, H2⟩, ⟨%g3, H3⟩, ⟨%g4, H4⟩⟩, Hbufs⟩, ⟨⟨Hc0, Hc1, Hc2, Hc3, Hc4⟩, Hsems⟩, HO⟩
  ihave Hmw := (show levAts (K (F := F)).L (K (F := F)).lev ⊢ Transfers.MayWaits (VT d L) (default : HIx 1) O from
    (K (F := F)).mayWaits_none (thr := VT d L) hO) $$ Hlv
  ihave HN := (Entails.of_eq (pts_nRow d L _).symm) $$ HN
  ihave HC := (Entails.of_eq (pts_cRow d L _).symm) $$ HC
  ihave H0 := (Entails.of_eq (pts_s0 d L _).symm) $$ H0
  ihave H1 := (Entails.of_eq (pts_s1 d L _).symm) $$ H1
  ihave H2 := (Entails.of_eq (pts_s2 d L _).symm) $$ H2
  ihave H3 := (Entails.of_eq (pts_s3 d L _).symm) $$ H3
  ihave H4 := (Entails.of_eq (pts_s4 d L _).symm) $$ H4
  iapply (wp_wand_r Idealize.ShloMosaic.frame (wpE (defs₀ (F := F)) 𝒱₀ (VT d L) none) Set.univ)
  isplitl [HX HY HZ HN HC H0 H1 H2 H3 H4 Hc0 Hc1 Hc2 Hc3 Hc4 HO]
  · iapply (tile_run d L (X0 m d) (Y0 m d) (Z0 m d) O W (sh (wL L)) (sh (wL L)) (sh (wL L)) g0 g1 g2 g3 g4 (m (nLoc d)) (m (cLoc d)))
    iframe
    iexact Hmw
  iintro %_ ⟨HX, HY, HZ, HN, HC, ⟨%g0, H0⟩, ⟨%g1, H1⟩, ⟨%g2, H2⟩, ⟨%g3, H3⟩, ⟨%g4, H4⟩, Hc0, Hc1, Hc2, Hc3, Hc4, ⟨%W', %hW', HO⟩⟩
  ihave HN := (Entails.of_eq (pts_nRow d L _)) $$ HN
  ihave HC := (Entails.of_eq (pts_cRow d L _)) $$ HC
  ihave H0 := (Entails.of_eq (pts_s0 d L _)) $$ H0
  ihave H1 := (Entails.of_eq (pts_s1 d L _)) $$ H1
  ihave H2 := (Entails.of_eq (pts_s2 d L _)) $$ H2
  ihave H3 := (Entails.of_eq (pts_s3 d L _)) $$ H3
  ihave H4 := (Entails.of_eq (pts_s4 d L _)) $$ H4
  isplitl [HX HY HZ HN HC]
  · iframe
  isplitl [H0 H1 H2 H3 H4 Hbufs]
  · isplitr [Hbufs]
    swap
    · iexact Hbufs
    isplitl [H0]
    · iexists _; iexact H0
    isplitl [H1]
    · iexists _; iexact H1
    isplitl [H2]
    · iexists _; iexact H2
    isplitl [H3]
    · iexists _; iexact H3
    iexists _; iexact H4
  isplitl [Hc0 Hc1 Hc2 Hc3 Hc4 Hsems]
  · iframe
  iexists W'
  isplitr
  · ipureintro
    exact fun p hp => (hW' p hp).imp id .inl
  iexact HO

end Tile

/-! ## The launch theorem's obligation for a tile -/

/-- The pair (SparseCore, subcore) as the grid's coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) pV (Memref.isWhole_whole _) tV (Memref.isWhole_whole _) mV (Memref.isWhole_whole _)
          nV (Memref.isWhole_whole _) cV (Memref.isWhole_whole _) s0 (Memref.isWhole_whole _) s1 (Memref.isWhole_whole _) s2 (Memref.isWhole_whole _)
          s3 (Memref.isWhole_whole _) s4 (Memref.isWhole_whole _) cc0_scoped0 cc0_scoped1 cc0_scoped2 cc0_scoped3 cc0_scoped4) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body m d (coordsV ⟨_, hci.1⟩ ⟨_, hci.2⟩) hF O W hO

end Cert.Proof.KernelIdealRun

end
-- ==== Proof.IdealRegion.lean ====
/-
  The finishing kernel: one grid point that reads the two arrays of partial sums and stores their quotient.
-/
module

public import proofs.«01_k».proof.Proof.IdealSc
public import Idealize.ShloMosaic.Lib.Pipeline.RegionsLoop

@[expose] public section

set_option maxRecDepth 16384

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)
open Idealize.ShloMosaic.Tactic

variable {F : FTy → Type} [FloatOps F]

local notation "𝕄" => MT nD τ sig (HIx 1) (Elt F) ℕ UU ℕ

/-! ## The body -/

theorem emb_full2 {A B : ℕ} (h : ∀ a, (![0, 0] : Fin 2 → ℕ) a + (⟨2, ![A, B]⟩ : Shape).size a ≤ (⟨2, ![A, B]⟩ : Shape).size a) (j : (⟨2, ![A, B]⟩ : Shape).Idx) :
    (Rect.unit (s := (⟨2, ![A, B]⟩ : Shape)) ![0, 0] (⟨2, ![A, B]⟩ : Shape).size h).emb j = j := by
  funext a
  apply Fin.ext
  rw [ValueKit.rect_emb_unit_val]
  match a with
  | 0 => exact Nat.zero_add _
  | 1 => exact Nat.zero_add _

/-- The finishing kernel's body: the two inputs as found, the result at their quotient. -/
theorem finish_run (c : Dev nD) (f0 : FVec F S32x16 .f32) (f1 : IVec S32x16 32) (f2 : FVec F S1x1 .f32) (Q : PUnit → sProp 𝕄) :
    iprop(((stage1_0 0).view.loc (c : Thread nD τ) ↦{fullShare} f0) ∗ ((stage1_1 0).view.loc (c : Thread nD τ) ↦{fullShare} f1) ∗ ((stage1_2 0).view.loc (c : Thread nD τ) ↦{fullShare} f2)
        ∗ (iprop(((stage1_0 0).view.loc (c : Thread nD τ) ↦{fullShare} f0) ∗ ((stage1_1 0).view.loc (c : Thread nD τ) ↦{fullShare} f1) ∗ ((stage1_2 0).view.loc (c : Thread nD τ) ↦{fullShare} k1_pay1 f0 f1)) -∗ Q ⟨⟩))
      ⊢ wp frame (wpE (defs₀ (F := F)) 𝒱₀ (c : Thread nD τ) none) Set.univ
          (cc1__finish_body (stage1_0 0) (hstage1_0 0) (stage1_1 0) (hstage1_1 0) (stage1_2 0) (hstage1_2 0)) Q := by
  iintro ⟨H0, H1, H2, Hk⟩
  sl_exec!
  sl_step
  iapply Hk
  isplitl [H0]
  · iexact H0
  isplitl [H1]
  · iexact H1
  have e0 : View.readAt (Elt F) (stage1_0 0).view (Rect.unit (s := S32x16) ![0, 0] S32x16.size inb_S32x16_S32x16_0_0).toLoadRect f0 = f0 :=
    funext fun j => congrArg f0 (emb_full2 _ j)
  have e1 : View.readAt (Elt F) (stage1_1 0).view (Rect.unit (s := S32x16) ![0, 0] S32x16.size inb_S32x16_S32x16_0_0).toLoadRect f1 = f1 :=
    funext fun j => congrArg f1 (emb_full2 _ j)
  have e2 : (stage1_2 0).view.writes (Elt F) (stage1_2 0).view.junk (finish_run.sl.H2_1 f0 f1) = k1_pay1 f0 f1 := by
    unfold finish_run.sl.H2_1
    rw [e0, e1]
    funext j
    have h := View.read_writes_cons_emb (Val := Elt F) (stage1_2 0).view (stage1_2 0).view.junk (Rect.unit (s := S1x1) ![0, 0] S1x1.size inb_S1x1_S1x1_0_0) (k1_pay1 f0 f1) [] j
    rw [emb_full2] at h
    exact h
  rw [e2]
  iexact H2

/-! ## The proof data, at an entry valuation -/

variable (V : (c : Dev nD) → (b : Ref sig .tc) → Buf (Elt F) ((c : Thread nD τ).loc b))

/-- What the region may find recorded: waits at the levels of the first SparseCore call. -/
abbrev seen (c : Dev nD) : Set (SemLoc sig × HIx 1) := {p | (K (F := F)).lev (T c, p.1) p.2 ≤ 8}

/-- The proof data of the one entry: the three arrays at `V`; the inputs' staging buffers as fetched and the result's at
    the quotient; nothing else held, nothing owed. -/
def dat (c : Dev nD) : Dat τ (Elt F) (HIx 1) ℕ UU ℕ cfg1 c where
  A w := V c (Pipeline.arrRef spec1 w)
  after w _ := match w with
    | ⟨0, _⟩ => ((cfg1.win 0).blk t1_0).view.read (Elt F) (V c main_v3_0)
    | ⟨1, _⟩ => ((cfg1.win 1).blk t1_0).view.read (Elt F) (V c main_v3_1)
    | ⟨2, _⟩ => k1_pay1 (V c main_v3_0) (V c main_v3_1)
  Φ _ := Pipeline.scopedRest (Ix := HIx 1) (Name := ℕ) (U := UU) (Lvl := ℕ) (Val := Elt F) spec1 c
  q _ := fullShare
  owed _ := 0
  recorded _ := seen (F := F) c

/-- The family over the pipelines: there is one. -/
abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | ⟨0, _⟩ => fun c => dat V c

theorem read_blk0 (c : Dev nD) : ((cfg1.win 0).blk t1_0).view.read (Elt F) (V c main_v3_0) = V c main_v3_0 := by
  funext j
  show V c main_v3_0 (((cfg1.win 0).blk t1_0).view.emb j) = V c main_v3_0 j
  refine congrArg (V c main_v3_0) (funext fun a => Fin.ext ?_)
  exact Pipeline.Window.rect_emb_val_of_index_zero (cfg1.win 0) t1_0 a rfl j

theorem read_blk1 (c : Dev nD) : ((cfg1.win 1).blk t1_0).view.read (Elt F) (V c main_v3_1) = V c main_v3_1 := by
  funext j
  show V c main_v3_1 (((cfg1.win 1).blk t1_0).view.emb j) = V c main_v3_1 j
  refine congrArg (V c main_v3_1) (funext fun a => Fin.ext ?_)
  exact Pipeline.Window.rect_emb_val_of_index_zero (cfg1.win 1) t1_0 a rfl j

theorem before_0 (c : Dev nD) (d : (cfg1.win 0).block.Idx → Elt F (cfg1.win 0).elt) :
    (dat V c).before 0 t1_0 d = ((cfg1.win 0).blk t1_0).view.read (Elt F) (V c main_v3_0) := by
  unfold Dat.before; rw [if_pos (by decide)]; rfl
theorem before_1 (c : Dev nD) (d : (cfg1.win 1).block.Idx → Elt F (cfg1.win 1).elt) :
    (dat V c).before 1 t1_0 d = ((cfg1.win 1).blk t1_0).view.read (Elt F) (V c main_v3_1) := by
  unfold Dat.before; rw [if_pos (by decide)]; rfl

/-- The body at the one point, from the staged arrays to the quotient. -/
theorem body_obligation (c : Dev nD) : BodyObligation (dat V c) (defs₀ (F := F)) 𝒱₀ (none : HIx 1) Set.univ := fun t => by
  obtain rfl := fin_N1 t
  rw [bigSep_W1, bigSep_W1]
  simp only [owns_whole_eq]
  rw [show (dat V c).Φ (Fin.succ t1_0) = (dat V c).Φ (Fin.castSucc t1_0) from rfl,
    show (dat V c).owesAt (none : HIx 1) (Fin.succ t1_0) = (dat V c).owesAt (none : HIx 1) (Fin.castSucc t1_0) from rfl]
  iintro ⟨HΦ, Howes, ⟨%d0, %f0, %hf0, H0⟩, ⟨%d1, %f1, %hf1, H1⟩, ⟨%d2, %f2, -, H2⟩⟩
  rw [before_0] at hf0
  rw [before_1] at hf1
  rw [read_blk0] at hf0
  rw [read_blk1] at hf1
  subst hf0 hf1
  iapply (finish_run c (V c main_v3_0) (V c main_v3_1) f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; exact (read_blk0 V c).symm
  isplitl [H1]; · iexists _; isplitr; swap; (· iexact H1); ipureintro; exact (read_blk1 V c).symm
  iexists _; isplitr; swap; (· iexact H2); ipureintro; rfl

/-- The result's array after the region: the quotient. -/
theorem arr_out (c : Dev nD) : (dat V c).arrAt 2 cfg1.N = k1_pay1 (V c main_v3_0) (V c main_v3_1) :=
  (dat V c).arrAt_eq_of_after_last 2 t1_0 (by decide +kernel) _ (fun j => rfl)

/-! ## The region over the thread's state -/

variable (Vp : (c : Dev nD) → (b : Ref sig .tc) → Buf (Elt F) ((c : Thread nD τ).loc b))

set_option backward.isDefEq.respectTransparency.types false in
/-- The region as a step between thread states: every unscoped buffer at `V`, then at `Vp`, which is `V` but for the
    result's array, at the quotient. -/
def reg (hVp_out : ∀ c, Vp c main_v4 = k1_pay1 (V c main_v3_0) (V c main_v3_1))
    (hVp_ne : ∀ c (b : Ref sig .tc), b ≠ main_v4 → Vp c b = V c b) :
    Pipeline.RegionSeg (pcfgs (F := F)) adm (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, ⌜(K (F := F)).WBelow (T c) W 8⌝ ∗ owes (c : Thread nD τ) (0 : CellTallies nD τ sig (HIx 1)) W)
  post c := iprop(unscopedBufs c (Vp c) ∗ ∃ W, ⌜(K (F := F)).WBelow (T c) W 8⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v3_0 (by decide)).symm
        · exact ((pdats V 0 c).arrAt_in 1 rfl _).trans (hVp_ne c main_v3_1 (by decide)).symm
        · exact (arr_out V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

theorem reg_pre (ho : ∀ c, Vp c main_v4 = k1_pay1 (V c main_v3_0) (V c main_v3_1)) (hn : ∀ c (b : Ref sig .tc), b ≠ main_v4 → Vp c b = V c b) (c : Dev nD) :
    (reg V Vp ho hn).pre c = iprop(unscopedBufs c (V c) ∗ ∃ W, ⌜(K (F := F)).WBelow (T c) W 8⌝ ∗ owes (c : Thread nD τ) (0 : CellTallies nD τ sig (HIx 1)) W) := rfl
theorem reg_post (ho : ∀ c, Vp c main_v4 = k1_pay1 (V c main_v3_0) (V c main_v3_1)) (hn : ∀ c (b : Ref sig .tc), b ≠ main_v4 → Vp c b = V c b) (c : Dev nD) :
    (reg V Vp ho hn).post c = iprop(unscopedBufs c (Vp c) ∗ ∃ W, ⌜(K (F := F)).WBelow (T c) W 8⌝ ∗ owes (c : Thread nD τ) (0 : CellTallies nD τ sig (HIx 1)) W) := rfl

end Cert.Proof.KernelIdealRun

end
-- ==== Proof.IdealMain.lean ====
/-
  @main on the TensorCore, and the run of the whole program: the arguments kept, the result at the quotient of the tiles'
  sums, every semaphore back at zero.
-/
module

public import proofs.«01_k».proof.Proof.IdealRegion

@[expose] public section

set_option maxRecDepth 16384

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the ghost state -/

/-- The finishing kernel's windows' component. -/
abbrev EP : Emb (UR sig nD τ) (MT nD τ sig (HIx 1) (Elt F) ℕ UU ℕ) := (Emb.inl : Emb (UR sig nD τ) UW).trans embR

instance EP_landsIn : (EP (F := F)).LandsIn (upEmb : UEmb _ 𝕄) := by
  unfold EP embR; infer_instance

theorem pin_inj : Function.Injective (Pipeline.cellOf (nD := nD) (τ := τ) (Pipeline.pin (pcfgs (F := F)) adm)) := cellOf_inj

/-- What the finishing kernel's region takes of the ghost state. -/
abbrev G (d : Dev nD) : sProp 𝕄 :=
  iprop((bigSep Finset.univ fun p : Fin 1 => Pipeline.cellsGhost (Pipeline.pin (pcfgs (F := F)) adm) EP p d)
    ∗ bigSep Finset.univ fun p : Fin 1 => Pipeline.toksInit (Pipeline.pin (pcfgs (F := F)) adm) EP p d)

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (Pipeline.cells (Pipeline.pin (pcfgs (F := F)) adm) pin_inj) (Pipeline.launchToks (Pipeline.pin (pcfgs (F := F)) adm) pin_inj), (1 : Counters))) $$ Hu
  icases H with ⟨HH, HR⟩
  ihave H := (own_pair_emb (embR : Emb UW 𝕄) (initOf (Pipeline.cells (Pipeline.pin (pcfgs (F := F)) adm) pin_inj) (Pipeline.launchToks (Pipeline.pin (pcfgs (F := F)) adm) pin_inj)) (1 : Counters)) $$ HR
  icases H with ⟨HP, -⟩
  imod (Pipeline.fund_ghost (Pipeline.pin (pcfgs (F := F)) adm) EP pin_inj) $$ HP with HG
  imodintro
  isplitl [HH]; · iexact HH
  isplitl [HG]
  · rw [bigSep_sep']; iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The buffers at a valuation -/

/-- The TensorCore's buffers, at a valuation: the three arguments, the three flat arrays, the two arrays of partial sums,
    the quotient, and the result. -/
theorem unscopedBufs_eq (d : Dev nD) (W : (b : Ref sig .tc) → Buf (Elt F) ((d : Thread nD τ).loc b)) :
    (unscopedBufs d W : sProp 𝕄) = iprop((aLoc d ↦{fullShare} W main_arg0) ∗ (bLoc d ↦{fullShare} W main_arg1) ∗ (kLoc d ↦{fullShare} W main_arg2)
      ∗ (pLoc d ↦{fullShare} W main_v0) ∗ (tLoc d ↦{fullShare} W main_v1) ∗ (mLoc d ↦{fullShare} W main_v2)
      ∗ (nLoc d ↦{fullShare} W main_v3_0) ∗ (cLoc d ↦{fullShare} W main_v3_1)
      ∗ ((SparseCore.T d).loc main_v4 ↦{fullShare} W main_v4) ∗ ((SparseCore.T d).loc main_v5 ↦{fullShare} W main_v5)) := by
  unfold unscopedBufs
  rw [show (Finset.univ.filter fun b : Ref sig .tc => ¬ b.isScoped) = {main_arg0, main_arg1, main_arg2, main_v0, main_v1, main_v2, main_v3_0, main_v3_1, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The TensorCore's unscoped references. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- At the launch; -/
def V0 (d : Dev nD) : Valuation τ sig (Elt F) := fun b => m (d, b)
abbrev op0 : HloOp τ sig (Elt F) := StableHlo.reshape main_arg0 main_v0 (rfl : (.f32 : EltTy) = .f32) shapeCasts_S32x384x384_S4718592
abbrev op1 : HloOp τ sig (Elt F) := StableHlo.reshape main_arg1 main_v1 (rfl : (.f32 : EltTy) = .f32) shapeCasts_S32x384x384_S4718592
abbrev op2 : HloOp τ sig (Elt F) := StableHlo.reshape main_arg2 main_v2 (rfl : (.i32 : EltTy) = .i32) shapeCasts_S32x384x384_S4718592
abbrev op3 : HloOp τ sig (Elt F) := StableHlo.reshape main_v4 main_v5 (rfl : (.f32 : EltTy) = .f32) shapeCasts_S1x1_S_
/-- the arguments laid flat; -/
def V3 (d : Dev nD) : Valuation τ sig (Elt F) := (op2 (F := F)).result ((op1 (F := F)).result ((op0 (F := F)).result (V0 m d)))
/-- the tiles' sums in; -/
def V4 (d : Dev nD) : Valuation τ sig (Elt F) :=
  Function.update (Function.update (V3 m d) (Proc.devRef .tc main_v3_0) (NUM0 m d)) (Proc.devRef .tc main_v3_1) (CNT0 m d)
/-- their quotient; -/
def V5 (d : Dev nD) : Valuation τ sig (Elt F) := Function.update (V4 m d) (Proc.devRef .tc main_v4) (k1_pay1 (NUM0 m d) (CNT0 m d))
/-- the result. -/
def V6 (d : Dev nD) : Valuation τ sig (Elt F) := (op3 (F := F)).result (V5 m d)

/-- The program's result. -/
def OUT (d : Dev nD) : FVec F S_ .f32 := shapeCast S_ (s := S1x1) (k1_pay1 (NUM0 m d) (CNT0 m d)) shapeCasts_S1x1_S_

theorem V3_p (d : Dev nD) : V3 m d main_v0 = X0 m d := by
  unfold V3
  rw [StableHlo.reshape_result_ne _ _ _ _ _ _ _ (by decide), StableHlo.reshape_result_ne _ _ _ _ _ _ _ (by decide)]
  exact StableHlo.reshape_result main_arg0 main_v0 rfl _ _ _ _
theorem V3_t (d : Dev nD) : V3 m d main_v1 = Y0 m d := by
  unfold V3
  rw [StableHlo.reshape_result_ne _ _ _ _ _ _ _ (by decide)]
  refine (StableHlo.reshape_result main_arg1 main_v1 rfl _ _ _ _).trans ?_
  rw [StableHlo.reshape_result_ne _ _ _ _ _ _ _ (by decide)]
  rfl
theorem V3_m (d : Dev nD) : V3 m d main_v2 = Z0 m d := by
  unfold V3
  refine (StableHlo.reshape_result main_arg2 main_v2 rfl _ _ _ _).trans ?_
  rw [StableHlo.reshape_result_ne _ _ _ _ _ _ _ (by decide), StableHlo.reshape_result_ne _ _ _ _ _ _ _ (by decide)]
  rfl
/-- Every buffer but the flat arrays keeps what it held. -/
theorem V3_ne (d : Dev nD) (b : Ref sig .tc) (h0 : b ≠ main_v0) (h1 : b ≠ main_v1) (h2 : b ≠ main_v2) : V3 m d b = m ((SparseCore.T d).loc b) := by
  unfold V3
  rw [StableHlo.reshape_result_ne _ _ _ _ _ _ _ h2, StableHlo.reshape_result_ne _ _ _ _ _ _ _ h1, StableHlo.reshape_result_ne _ _ _ _ _ _ _ h0]
  rfl

theorem V4_n (d : Dev nD) : V4 m d main_v3_0 = NUM0 m d := by
  unfold V4
  rw [Function.update_of_ne (by decide), Function.update_self]
theorem V4_c (d : Dev nD) : V4 m d main_v3_1 = CNT0 m d := by
  unfold V4
  rw [Function.update_self]
theorem V4_ne (d : Dev nD) (b : Ref sig .tc) (h0 : b ≠ main_v3_0) (h1 : b ≠ main_v3_1) : V4 m d b = V3 m d b := by
  unfold V4
  rw [Function.update_of_ne (StableHlo.devRef_ne_of_ne h1), Function.update_of_ne (StableHlo.devRef_ne_of_ne h0)]

theorem V5_q (d : Dev nD) : V5 m d main_v4 = k1_pay1 (V4 m d main_v3_0) (V4 m d main_v3_1) := by
  unfold V5
  rw [Function.update_self, V4_n, V4_c]
theorem V5_ne (d : Dev nD) (b : Ref sig .tc) (h : b ≠ main_v4) : V5 m d b = V4 m d b := by
  unfold V5
  rw [Function.update_of_ne (StableHlo.devRef_ne_of_ne h)]

theorem V6_out (d : Dev nD) : V6 m d main_v5 = OUT m d := by
  unfold V6
  refine (StableHlo.reshape_result main_v4 main_v5 rfl _ _ _ _).trans ?_
  rw [V5_q, V4_n, V4_c]
  rfl
theorem V6_ne (d : Dev nD) (b : Ref sig .tc) (h : b ≠ main_v5) : V6 m d b = V5 m d b := by
  unfold V6
  rw [StableHlo.reshape_result_ne _ _ _ _ _ _ _ h]

/-! ## The steps of @main -/

/-- The finishing kernel's call, in the kernels' own signature. -/
def callFinish : Prog (TpuEff nD τ sig (Elt F) (ΛP (F := F)) .tc) PUnit := .op (.customCall (Pipeline.entry 0) ()) .ret

theorem lift_callFinish : SparseCore.liftProg (Q := 1) (callFinish (F := F)) = Prog.lift (.customCall (SparseCore.inner (Pipeline.entry 0)) ()) := rfl

/-- The finishing kernel's region, as @main enters it. -/
theorem region_wp (d : Dev nD) (Q : PUnit → sProp 𝕄) :
    iprop(boundary (SparseCore.T d : Thread nD τ) ∗ (held (SparseCore.T d) ucRefs (V4 m d)
        ∗ ∃ W, ⌜(K (F := F)).WBelow (SparseCore.T d) W 8⌝ ∗ owes (SparseCore.T d) (0 : CellTallies nD τ sig (HIx 1)) W)
        ∗ levAts (K (F := F)).L (K (F := F)).lev ∗ G (F := F) d
        ∗ (iprop(boundary (SparseCore.T d : Thread nD τ) ∗ held (SparseCore.T d) ucRefs (V5 m d)
          ∗ ∃ W, ⌜(K (F := F)).WBelow (SparseCore.T d) W 8⌝ ∗ owes (SparseCore.T d) (0 : CellTallies nD τ sig (HIx 1)) W) -∗ Q ⟨⟩))
      ⊢ wp frame (wpE ((K (F := F)).defs (D (F := F))) 𝒱 (SparseCore.T d) none) Set.univ
          (Prog.lift (.customCall (SparseCore.inner (Pipeline.entry 0)) ())) Q := by
  rw [← lift_callFinish]
  have hl := (K (F := F)).wp_liftProg (U := UU) (Name := ℕ) (D (F := F)) 𝒱 (SparseCore.T d) Set.univ none (callFinish (F := F)) Q
  refine BIBase.Entails.trans ?_ hl
  have h := Pipeline.RegionSeg.wp (α := PUnit) (pcfgs (F := F)) adm (pdats fun c b => V4 m c b) (none : HIx 1) pin_inj EP (defs₀ (F := F)) 𝒱₀
    (K (F := F)).L (K (F := F)).lev
    (reg _ (fun c b => V5 m c b) (V5_q m) (fun c b h => V5_ne m c b h)) d none (fun _ h => nomatch h) .ret Q
  rw [reg_pre, reg_post] at h
  refine BIBase.Entails.trans ?_ h
  iintro ⟨Hb, Hpre, Hlev, ⟨HG1, HG2⟩, Hk⟩
  isplitl [Hk]
  · iintro ⟨Hb, Hu, HO⟩
    rw [wp_ret]
    imodintro
    iapply Hk
    isplitl [Hb]; · iexact Hb
    isplitl [Hu]; · rw [← unscopedBufs_held]; iexact Hu
    iexact HO
  isplitl [Hb]; · iexact Hb
  isplitl [Hpre]; · rw [← unscopedBufs_held]; iexact Hpre
  isplitl [Hlev]; · iexact Hlev
  isplitl [HG1]
  · ihave H := (Entails.of_eq (bigSep_univ_of_subsingleton (0 : Fin 1))) $$ HG1
    iexact H
  ihave H := (Entails.of_eq (bigSep_univ_of_subsingleton (0 : Fin 1))) $$ HG2
  iexact H

theorem st0_eq (d : Dev nD) : (bigSep Finset.univ fun c : Fin ((K (F := F)).nCore 0) => (P m).st 0 d c)
    = iprop((pLoc d ↦{fullShare} X0 m d) ∗ (tLoc d ↦{fullShare} Y0 m d) ∗ (mLoc d ↦{fullShare} Z0 m d) ∗ (nLoc d ↦{fullShare} m (nLoc d)) ∗ (cLoc d ↦{fullShare} m (cLoc d))) := by
  rw [← tiles_eq, ← cores_eq]; rfl
theorem dn0_eq (d : Dev nD) : (bigSep Finset.univ fun c : Fin ((K (F := F)).nCore 0) => (P m).dn 0 d c)
    = iprop((pLoc d ↦{fullShare} X0 m d) ∗ (tLoc d ↦{fullShare} Y0 m d) ∗ (mLoc d ↦{fullShare} Z0 m d) ∗ (nLoc d ↦{fullShare} NUM0 m d) ∗ (cLoc d ↦{fullShare} CNT0 m d)) := by
  rw [← tiles_eq, ← cores_eq]; rfl

/-- What @main keeps: the arguments as launched, and the result. -/
abbrev FIN (d : Dev nD) : sProp 𝕄 :=
  iprop((aLoc d ↦{fullShare} m (aLoc d)) ∗ (bLoc d ↦{fullShare} m (bLoc d)) ∗ (kLoc d ↦{fullShare} m (kLoc d)) ∗ ((SparseCore.T d).loc main_v5 ↦{fullShare} OUT m d))

theorem held_V3 (d : Dev nD) : (held (SparseCore.T d) ucRefs (V3 m d) : sProp 𝕄)
    = iprop((aLoc d ↦{fullShare} m (aLoc d)) ∗ (bLoc d ↦{fullShare} m (bLoc d)) ∗ (kLoc d ↦{fullShare} m (kLoc d))
      ∗ (pLoc d ↦{fullShare} X0 m d) ∗ (tLoc d ↦{fullShare} Y0 m d) ∗ (mLoc d ↦{fullShare} Z0 m d)
      ∗ (nLoc d ↦{fullShare} m (nLoc d)) ∗ (cLoc d ↦{fullShare} m (cLoc d))
      ∗ ((SparseCore.T d).loc main_v4 ↦{fullShare} m ((SparseCore.T d).loc main_v4)) ∗ ((SparseCore.T d).loc main_v5 ↦{fullShare} m ((SparseCore.T d).loc main_v5))) := by
  rw [← unscopedBufs_held, unscopedBufs_eq, V3_p, V3_t, V3_m,
    V3_ne m d main_arg0 (by decide) (by decide) (by decide), V3_ne m d main_arg1 (by decide) (by decide) (by decide), V3_ne m d main_arg2 (by decide) (by decide) (by decide),
    V3_ne m d main_v3_0 (by decide) (by decide) (by decide), V3_ne m d main_v3_1 (by decide) (by decide) (by decide),
    V3_ne m d main_v4 (by decide) (by decide) (by decide), V3_ne m d main_v5 (by decide) (by decide) (by decide)]

theorem held_V4 (d : Dev nD) : (held (SparseCore.T d) ucRefs (V4 m d) : sProp 𝕄)
    = iprop((aLoc d ↦{fullShare} m (aLoc d)) ∗ (bLoc d ↦{fullShare} m (bLoc d)) ∗ (kLoc d ↦{fullShare} m (kLoc d))
      ∗ (pLoc d ↦{fullShare} X0 m d) ∗ (tLoc d ↦{fullShare} Y0 m d) ∗ (mLoc d ↦{fullShare} Z0 m d)
      ∗ (nLoc d ↦{fullShare} NUM0 m d) ∗ (cLoc d ↦{fullShare} CNT0 m d)
      ∗ ((SparseCore.T d).loc main_v4 ↦{fullShare} m ((SparseCore.T d).loc main_v4)) ∗ ((SparseCore.T d).loc main_v5 ↦{fullShare} m ((SparseCore.T d).loc main_v5))) := by
  rw [← unscopedBufs_held, unscopedBufs_eq, V4_n, V4_c,
    V4_ne m d main_arg0 (by decide) (by decide), V4_ne m d main_arg1 (by decide) (by decide), V4_ne m d main_arg2 (by decide) (by decide),
    V4_ne m d main_v0 (by decide) (by decide), V4_ne m d main_v1 (by decide) (by decide), V4_ne m d main_v2 (by decide) (by decide),
    V4_ne m d main_v4 (by decide) (by decide), V4_ne m d main_v5 (by decide) (by decide), V3_p, V3_t, V3_m,
    V3_ne m d main_arg0 (by decide) (by decide) (by decide), V3_ne m d main_arg1 (by decide) (by decide) (by decide), V3_ne m d main_arg2 (by decide) (by decide) (by decide),
    V3_ne m d main_v4 (by decide) (by decide) (by decide), V3_ne m d main_v5 (by decide) (by decide) (by decide)]

/-- The arguments and the result are among the buffers at the end. -/
theorem held_V6 (d : Dev nD) : (held (SparseCore.T d) ucRefs (V6 m d) : sProp 𝕄) ⊢ FIN m d := by
  have ha : ∀ b : Ref sig .tc, b ≠ main_v0 → b ≠ main_v1 → b ≠ main_v2 → b ≠ main_v3_0 → b ≠ main_v3_1 → b ≠ main_v4 → b ≠ main_v5 → V6 m d b = m ((SparseCore.T d).loc b) :=
    fun b h0 h1 h2 h3 h4 h5 h6 => (V6_ne m d b h6).trans ((V5_ne m d b h5).trans ((V4_ne m d b h3 h4).trans (V3_ne m d b h0 h1 h2)))
  rw [← unscopedBufs_held, unscopedBufs_eq, V6_out, ha main_arg0 (by decide) (by decide) (by decide) (by decide) (by decide) (by decide) (by decide),
    ha main_arg1 (by decide) (by decide) (by decide) (by decide) (by decide) (by decide) (by decide),
    ha main_arg2 (by decide) (by decide) (by decide) (by decide) (by decide) (by decide) (by decide)]
  iintro ⟨Ha, Hb, Hk, -, -, -, -, -, -, Ho⟩
  isplitl [Ha]; · iexact Ha
  isplitl [Hb]; · iexact Hb
  isplitl [Hk]; · iexact Hk
  iexact Ho

theorem sub0 : (op0 (F := F)).bufs ⊆ ucRefs := by rw [show (op0 (F := F)).bufs = {(main_arg0 : DevRef τ sig), (main_v0 : DevRef τ sig)} from rfl]; decide
theorem sub1 : (op1 (F := F)).bufs ⊆ ucRefs := by rw [show (op1 (F := F)).bufs = {(main_arg1 : DevRef τ sig), (main_v1 : DevRef τ sig)} from rfl]; decide
theorem sub2 : (op2 (F := F)).bufs ⊆ ucRefs := by rw [show (op2 (F := F)).bufs = {(main_arg2 : DevRef τ sig), (main_v2 : DevRef τ sig)} from rfl]; decide
theorem sub3 : (op3 (F := F)).bufs ⊆ ucRefs := by rw [show (op3 (F := F)).bufs = {(main_v4 : DevRef τ sig), (main_v5 : DevRef τ sig)} from rfl]; decide

/-- @main on device `d`'s TensorCore: the arguments laid flat, the tiles' call, the finishing kernel, the result. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) ucRefs (V0 m d) from unscopedBufs_held d (V0 m d)]
  simp only [main, wp_bind, wp_pure]
  iintro ⟨#Hctx, Hst, ⟨Hb, Hbufs, Hts, -⟩, HG⟩
  ihave #Hlev := (SparseCore.Cfg.ctx_levAts κ) $$ Hctx
  iapply (wp_hlo_within 𝒱 (SparseCore.T d) none Set.univ (op := op0) (S := ucRefs) sub0 (V := V0 m d)) $$ [Hb Hbufs]
  · isplitl [Hb] <;> iassumption
  iintro ⟨Hb, Hbufs⟩
  rw [wp_ret]
  imodintro
  iapply (wp_hlo_within 𝒱 (SparseCore.T d) none Set.univ (op := op1) (S := ucRefs) sub1 (V := (op0 (F := F)).result (V0 m d))) $$ [Hb Hbufs]
  · isplitl [Hb] <;> iassumption
  iintro ⟨Hb, Hbufs⟩
  rw [wp_ret]
  imodintro
  iapply (wp_hlo_within 𝒱 (SparseCore.T d) none Set.univ (op := op2) (S := ucRefs) sub2 (V := (op1 (F := F)).result ((op0 (F := F)).result (V0 m d)))) $$ [Hb Hbufs]
  · isplitl [Hb] <;> iassumption
  iintro ⟨Hb, Hbufs⟩
  rw [wp_ret]
  imodintro
  ihave Hbufs := (Entails.of_eq (show (held (SparseCore.T d) ucRefs ((op2 (F := F)).result ((op1 (F := F)).result ((op0 (F := F)).result (V0 m d)))) : sProp 𝕄) = _ from held_V3 m d)) $$ Hbufs
  icases Hbufs with ⟨Ha, Hbb, Hk, Hp, Ht, Hm, Hn, Hc, H4, H5⟩
  iapply ((K (F := F)).wp_run (D (F := F)) 𝒱 (EH := EH) (P := P m) κ d 0) $$ [Hst Ha Hbb Hk Hp Ht Hm Hn Hc H4 H5 Hb Hts HG]
  isplitr; · iexact Hctx
  isplitl [Hst]; · iexact Hst
  isplitl [Hp Ht Hm Hn Hc]
  · rw [st0_eq]
    isplitl [Hp]; · iexact Hp
    isplitl [Ht]; · iexact Ht
    isplitl [Hm]; · iexact Hm
    isplitl [Hn]; · iexact Hn
    iexact Hc
  iintro ⟨Hst, Hdn⟩
  ihave Hdn := (Entails.of_eq (dn0_eq m d)) $$ Hdn
  icases Hdn with ⟨Hp, Ht, Hm, Hn, Hc⟩
  ihave Hst := (Entails.of_eq (show (K (F := F)).tcSt EH d ((0 : Fin 1).val + 1) = (K (F := F)).tcSt EH d 1 from rfl)) $$ Hst
  unfold SparseCore.Cfg.tcSt
  rw [(K (F := F)).Otc_end d (le_refl 1)]
  icases Hst with ⟨HO, Hrest⟩
  iapply (region_wp m d _) $$ [Ha Hbb Hk Hp Ht Hm Hn Hc H4 H5 Hb Hts HG HO Hrest]
  isplitl [Hb]; · iexact Hb
  isplitl [Ha Hbb Hk Hp Ht Hm Hn Hc H4 H5 HO]
  · isplitr [HO]
    · rw [held_V4]
      isplitl [Ha]; · iexact Ha
      isplitl [Hbb]; · iexact Hbb
      isplitl [Hk]; · iexact Hk
      isplitl [Hp]; · iexact Hp
      isplitl [Ht]; · iexact Ht
      isplitl [Hm]; · iexact Hm
      isplitl [Hn]; · iexact Hn
      isplitl [Hc]; · iexact Hc
      isplitl [H4]; · iexact H4
      iexact H5
    iexact HO
  isplitr; · iexact Hlev
  isplitl [HG]; · iexact HG
  iintro ⟨Hb, Hbufs, HO⟩
  iapply (wp_hlo_within 𝒱 (SparseCore.T d) none Set.univ (op := op3) (S := ucRefs) sub3 (V := V5 m d)) $$ [Hb Hbufs]
  · isplitl [Hb] <;> iassumption
  iintro ⟨Hb, Hbufs⟩
  rw [wp_ret]
  imodintro
  ihave Hbufs := (show (held (SparseCore.T d) ucRefs ((op3 (F := F)).result (V5 m d)) : sProp 𝕄) ⊢ _ from held_V6 m d) $$ Hbufs
  imodintro
  isplitl [HO Hrest]
  · isplitl [HO]; · iexact HO
    iexact Hrest
  isplitl [Hbufs]; · iexact Hbufs
  isplitl [Hb] <;> iassumption

def fq (d : Dev nD) (s' : Phys nD τ sig (Elt F)) : Prop :=
  s'.mem.mem (aLoc d) = m (aLoc d) ∧ s'.mem.mem (bLoc d) = m (bLoc d) ∧ s'.mem.mem (kLoc d) = m (kLoc d) ∧ s'.mem.mem ((SparseCore.T d).loc main_v5) = OUT m d

theorem hfin (d : Dev nD) (s' : Phys nD τ sig (Elt F)) : iprop(FIN m d ∗ SI s') ⊢ (⌜fq m d s'⌝ : sProp 𝕄) := by
  iintro ⟨⟨Ha, Hb, Hk, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h3, HSI, -⟩
  ihave H := (SI_pointsTo_agree (st := s') (ℓ := (SparseCore.T d).loc main_v5) (I := Finset.univ) (q := fullShare) (f := OUT m d)) $$ [HSI Ho]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

/-! ## The program's run -/

def QC : PUnit × MemSt nD τ sig (Elt F) → Prop := fun r =>
  (∀ d : Dev nD, r.2.mem (aLoc d) = m (aLoc d) ∧ r.2.mem (bLoc d) = m (bLoc d) ∧ r.2.mem (kLoc d) = m (kLoc d) ∧ r.2.mem ((SparseCore.T d).loc main_v5) = OUT m d)
    ∧ r.2.sem = fun _ => 0

/-- The program runs from any memory: the arguments end as launched, the result at `OUT`, every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.KernelIdealRun

end
-- ==== Proof.Value.lean ====
/-
  The values. Over the extended reals the kernel's result and the reference's are one number, when every word of the mask is
  0 or 1: the numerators are one sum in two orders, and so are the counts, which are too small to wrap.
-/
module

public import proofs.«01_k».proof.Defs
public import proofs.«01_k».proof.Proof.IdealMain
public import proofs.«01_k».proof.Proof.Gen.ReferenceIdeal
public import proofs.«01_k».proof.Proof.Gen.ReferenceIdeal.Run
public import proofs.«01_k».proof.Proof.Gen.Pre_pre
public import Idealize.ShloMosaic.Lib.IdealHost
public import Idealize.ShloMosaic.Lib.SortFacts
public import Idealize.ShloMosaic.Lib.ReduceAll
public import Idealize.ShloMosaic.Lib.WordSum
public import Idealize.ShloMosaic.Lib.WordCmp

@[expose] public section

set_option maxRecDepth 16384

noncomputable section

namespace Cert.Proof.Value

section Reference

open Cert.ReferenceIdeal Cert.ReferenceIdeal.Gen Idealize.ShloMosaic

/-- The reference's value of its arguments, operation by operation. -/
def REF (x y : FVec Ideal S32x384x384 .f32) (z : IVec S32x384x384 32) : FVec Ideal S_ .f32 :=
  Host.divf (Host.reduceAdd (Host.sort S4718592 0 comparator_f32_d0 (shapeCast _ (select (id (cmpi .ne z (broadcastInDim S32x384x384 ![] bcast_S_S32x384x384 (constantI S_ 32 0#32)))) (Host.absf (subf x y)) (broadcastInDim S32x384x384 ![] bcast_S_S32x384x384 (constant S_ .f32 0x00000000#32))) shapeCasts_S32x384x384_S4718592)) (constant S_ .f32 0x00000000#32) reducesTo_S4718592_S_d0 h_S_) (id (mulf (constant S_ .f32 0x40000000#32) (sitofp .f32 (Host.reduce IntOp.addi (Host.reduce IntOp.addi z (constantI S_ 32 0#32) reducesTo_S32x384x384_S32_d1_2 h_S_) (constantI S_ 32 0#32) reducesTo_S32_S_d0 h_S_))))

end Reference

open Cert.KernelIdeal Cert.KernelIdeal.Gen Cert.Proof.KernelIdealRun
open Idealize.ShloMosaic
open Idealize.ShloMosaic.WordCmp (ofBool_eq_one_iff)
open Idealize.ShloMosaic.WordSum (toNat_sum)
open scoped BigOperators

/-! ## One element of the sum, and the sums of one share -/

/-- One element's term of the numerator: the residual's magnitude where the mask is set, zero elsewhere. -/
def term (x y : EReal) (z : BitVec 32) : EReal := if z ≠ 0#32 then max (x - y) (-(x - y)) else 0

theorem select_ne (z : BitVec 32) (u v : EReal) : (if IntOp.cmpi .ne z 0#32 = 1#1 then u else v) = if z ≠ 0#32 then u else v := by
  have h : (IntOp.cmpi .ne z 0#32 = 1#1) ↔ z ≠ 0#32 := by
    simp only [IntOp.cmpi, ofBool_eq_one_iff, bne_iff_ne]
  simp only [h]

theorem pay4_apply (a : FVec Ideal S16 .f32) (x y : FVec Ideal S16 .f32) (z : IVec S16 32) (l : S16.Idx) :
    k0_pay4 a x y z l = a l + term (x l) (y l) (z l) := by
  have e : ∀ l : S16.Idx, Shape.reshapeEquiv (s := S16) (s' := S16) shapeCasts_S16_S16 l = l := fun l => by
    rw [Shape.reshapeEquiv_self]
  unfold k0_pay4 k0_pay3
  show a l + (if IntOp.cmpi .ne (z (Shape.reshapeEquiv shapeCasts_S16_S16 l)) 0#32 = 1#1
    then max (x (Shape.reshapeEquiv shapeCasts_S16_S16 l) - y (Shape.reshapeEquiv shapeCasts_S16_S16 l))
      (-(x (Shape.reshapeEquiv shapeCasts_S16_S16 l) - y (Shape.reshapeEquiv shapeCasts_S16_S16 l)))
    else Ideal.ofBits .f32 0x00000000#32) = _
  rw [e, Ideal.ofBits_zero_f32, select_ne]
  rfl

theorem pay5_apply (a : IVec S16 32) (z : IVec S16 32) (l : S16.Idx) : k0_pay5 (F := Ideal) a z l = a l + z l := by
  unfold k0_pay5 k0_pay3
  show a l + z (Shape.reshapeEquiv shapeCasts_S16_S16 l) = _
  rw [Shape.reshapeEquiv_self]

/-- A lane's sum after `n` groups is the sum of its terms. -/
theorem part_fst (x y : FVec Ideal S4718592 .f32) (z : IVec S4718592 32) (w n : ℕ) (l : S16.Idx) :
    (part x y z w n).1 l = ∑ k ∈ Finset.range n, term (x (at16 w k l)) (y (at16 w k l)) (z (at16 w k l)) := by
  induction n with
  | zero => rw [Finset.sum_range_zero]; exact Ideal.ofBits_zero_f32
  | succ n ih => rw [Finset.sum_range_succ, ← ih]; exact pay4_apply _ _ _ _ _

/-- A lane's count after `n` groups is the sum of its mask words. -/
theorem part_snd (x y : FVec Ideal S4718592 .f32) (z : IVec S4718592 32) (w n : ℕ) (l : S16.Idx) :
    (part x y z w n).2 l = ∑ k ∈ Finset.range n, z (at16 w k l) := by
  induction n with
  | zero => rfl
  | succ n ih => rw [Finset.sum_range_succ, ← ih]; exact pay5_apply _ _ _

/-! ## The shares, lanes and groups cover every element once -/

/-- Lane `j 1` of a row of sixteen. -/
def lane (j : S32x16.Idx) : S16.Idx := fun | 0 => j 1

theorem at16_val (w n : ℕ) (l : S16.Idx) : (at16 w n l 0).val = (147456 * w + 16 * n + (l 0).val) % 4718592 := rfl

/-- A sum over the shares, their lanes and their groups is the sum over the elements. -/
theorem sum_cover {M : Type} [AddCommMonoid M] (g : S4718592.Idx → M) :
    ∑ j : S32x16.Idx, ∑ k ∈ Finset.range 9216, g (at16 (j 0).val k (lane j)) = ∑ i : S4718592.Idx, g i := by
  have h0 : ∀ j : S32x16.Idx, ∑ k ∈ Finset.range 9216, g (at16 (j 0).val k (lane j))
      = ∑ k : Fin 9216, g (at16 (j 0).val k.val (lane j)) := fun j =>
    Finset.sum_range fun k => g (at16 (j 0).val k (lane j))
  rw [Finset.sum_congr rfl fun j _ => h0 j, ← Fintype.sum_prod_type' (f := fun (j : S32x16.Idx) (k : Fin 9216) => g (at16 (j 0).val k.val (lane j)))]
  have hb : Function.Bijective fun p : S32x16.Idx × Fin 9216 => at16 (p.1 0).val p.2.val (lane p.1) := by
    constructor
    · rintro ⟨j, k⟩ ⟨j', k'⟩ h
      have h1 : (147456 * (j 0).val + 16 * k.val + (j 1).val) % 4718592
          = (147456 * (j' 0).val + 16 * k'.val + (j' 1).val) % 4718592 := congrArg Fin.val (congrFun h 0)
      have a0 : (j 0).val < 32 := (j 0).isLt
      have a1 : (j 1).val < 16 := (j 1).isLt
      have b0 : (j' 0).val < 32 := (j' 0).isLt
      have b1 : (j' 1).val < 16 := (j' 1).isLt
      have c := k.isLt
      have c' := k'.isLt
      have e0 : (j 0).val = (j' 0).val := by omega
      have e1 : (j 1).val = (j' 1).val := by omega
      have e2 : k.val = k'.val := by omega
      refine Prod.ext (funext fun a => ?_) (Fin.ext e2)
      match a with
      | 0 => exact Fin.ext e0
      | 1 => exact Fin.ext e1
    · intro i
      have hi : (i 0).val < 4718592 := (i 0).isLt
      refine ⟨⟨fun | 0 => ⟨(i 0).val / 147456, show _ < 32 by omega⟩ | 1 => ⟨(i 0).val % 16, show _ < 16 by omega⟩,
        ⟨(i 0).val % 147456 / 16, by omega⟩⟩, funext fun a => ?_⟩
      match a with
      | 0 =>
        refine Fin.ext ?_
        show (147456 * ((i 0).val / 147456) + 16 * ((i 0).val % 147456 / 16) + (i 0).val % 16) % 4718592 = (i 0).val
        omega
  exact Fintype.sum_bijective _ hb _ _ fun p => rfl

theorem NUM_apply (x y : FVec Ideal S4718592 .f32) (z : IVec S4718592 32) (j : S32x16.Idx) :
    NUM x y z j = ∑ k ∈ Finset.range 9216, term (x (at16 (j 0).val k (lane j))) (y (at16 (j 0).val k (lane j))) (z (at16 (j 0).val k (lane j))) :=
  part_fst x y z _ _ (lane j)

theorem CNT_apply (x y : FVec Ideal S4718592 .f32) (z : IVec S4718592 32) (j : S32x16.Idx) :
    CNT x y z j = ∑ k ∈ Finset.range 9216, z (at16 (j 0).val k (lane j)) :=
  part_snd x y z _ _ (lane j)

/-- The lane sums add up to the sum of every element's term. -/
theorem sum_NUM (x y : FVec Ideal S4718592 .f32) (z : IVec S4718592 32) :
    ∑ j : S32x16.Idx, NUM x y z j = ∑ i : S4718592.Idx, term (x i) (y i) (z i) := by
  rw [Finset.sum_congr rfl fun j _ => NUM_apply x y z j]
  exact sum_cover fun i => term (x i) (y i) (z i)

/-! ## The counts -/

/-- A sum of naturals read as extended reals. -/
theorem coe_sum {ι : Type} (S : Finset ι) (f : ι → ℕ) : ∑ i ∈ S, (((f i : ℕ) : ℝ) : EReal) = (((∑ i ∈ S, f i : ℕ) : ℝ) : EReal) := by
  induction S using Finset.cons_induction with
  | empty => simp
  | cons a S ha ih => rw [Finset.sum_cons, Finset.sum_cons, ih, Nat.cast_add, EReal.coe_add]

/-- A word below 2³¹ read as a signed integer is itself. -/
theorem toInt_small {b : BitVec 32} {n : ℕ} (h : b.toNat = n) (hn : n < 2147483648) : ((b.toInt : ℝ) : EReal) = ((n : ℝ) : EReal) := by
  have : b.toInt = (n : ℤ) := by rw [BitVec.toInt_eq_toNat_of_lt (by omega), h]
  rw [this, Int.cast_natCast]

/-- An element's place is its one coordinate. -/
def place {n : ℕ} : (⟨1, ![n]⟩ : Shape).Idx ≃ Fin n :=
  ⟨fun i => i 0, Shape.Idx.ofFin, fun i => (Shape.Idx.eq_ofFin i).symm, fun k => Shape.Idx.ofFin_zero k⟩

theorem card_flat : Fintype.card S4718592.Idx = 4718592 := by
  rw [Fintype.card_congr (place (n := 4718592)), Fintype.card_fin]

/-- Zeros and ones, summed over the elements, stay below their number. -/
theorem total_le (z : IVec S4718592 32) (hz : ∀ i, (z i).toNat ≤ 1) : ∑ i, (z i).toNat ≤ 4718592 := by
  refine (Finset.sum_le_card_nsmul _ _ 1 fun i _ => hz i).trans ?_
  rw [Finset.card_univ, card_flat]; simp

/-- A lane's count does not wrap. -/
theorem CNT_toNat (x y : FVec Ideal S4718592 .f32) (z : IVec S4718592 32) (hz : ∀ i, (z i).toNat ≤ 1) (j : S32x16.Idx) :
    (CNT x y z j).toNat = ∑ k ∈ Finset.range 9216, (z (at16 (j 0).val k (lane j))).toNat
      ∧ ∑ k ∈ Finset.range 9216, (z (at16 (j 0).val k (lane j))).toNat ≤ 9216 := by
  have hle : ∑ k ∈ Finset.range 9216, (z (at16 (j 0).val k (lane j))).toNat ≤ 9216 := by
    refine (Finset.sum_le_card_nsmul _ _ 1 fun i _ => hz _).trans ?_
    rw [Finset.card_range]; simp
  refine ⟨?_, hle⟩
  rw [CNT_apply]
  exact toNat_sum _ _ (lt_of_le_of_lt hle (by norm_num))

/-- The lane counts, read as extended reals, add up to the number of ones. -/
theorem sum_CNT (x y : FVec Ideal S4718592 .f32) (z : IVec S4718592 32) (hz : ∀ i, (z i).toNat ≤ 1) :
    ∑ j : S32x16.Idx, (((CNT x y z j).toInt : ℝ) : EReal) = (((∑ i, (z i).toNat : ℕ) : ℝ) : EReal) := by
  have h : ∀ j : S32x16.Idx, (((CNT x y z j).toInt : ℝ) : EReal)
      = (((∑ k ∈ Finset.range 9216, (z (at16 (j 0).val k (lane j))).toNat : ℕ) : ℝ) : EReal) := fun j =>
    toInt_small (CNT_toNat x y z hz j).1 (lt_of_le_of_lt (CNT_toNat x y z hz j).2 (by norm_num))
  rw [Finset.sum_congr rfl fun j _ => h j, coe_sum, sum_cover fun i => (z i).toNat]

/-! ## The kernel's result -/

/-- A whole sum of an array of a row for a share, as the finishing kernel takes it. -/
theorem total_apply (v : FVec Ideal S32x16 .f32) (i : S1.Idx) :
    multiReduction .add [1, 2] S1 (shapeCast S1x32x16 v shapeCasts_S32x16_S1x32x16) 0x00000000#32 reduces_S1x32x16_S1 (.inl rfl) rfl i
      = ∑ j : S32x16.Idx, v j := by
  refine (Ideal.multiReduction_add_total _ _ _ (by decide) _ _ i).trans ?_
  exact Equiv.sum_comp (Shape.reshapeEquiv (s := S32x16) (s' := S1x32x16) shapeCasts_S32x16_S1x32x16) v

/-- The finishing kernel's value: the whole sum over twice the whole count. -/
theorem pay1_apply (a : FVec Ideal S32x16 .f32) (b : IVec S32x16 32) (i : S1x1.Idx) :
    k1_pay1 (F := Ideal) a b i = Ideal.div (∑ j : S32x16.Idx, a j) (Ideal.ofBits .f32 0x40000000#32 * ∑ j : S32x16.Idx, (((b j).toInt : ℝ) : EReal)) := by
  have ha : shapeCast S32x16 a shapeCasts_S32x16_S32x16 = a := by funext i; unfold shapeCast; rw [Shape.reshapeEquiv_self]
  have hb : shapeCast S32x16 b shapeCasts_S32x16_S32x16 = b := by funext i; unfold shapeCast; rw [Shape.reshapeEquiv_self]
  unfold k1_pay1
  simp only [ha, hb]
  refine congrArg₂ Ideal.div ?_ (congrArg (Ideal.ofBits .f32 0x40000000#32 * ·) ?_)
  · exact total_apply a _
  · exact total_apply (sitofp .f32 b) _

/-! ## The reference's result -/

/-- Sorting changes no sum. -/
theorem sum_sort_rank1 {n : ℕ} (cmp : EReal → EReal → BitVec 1) (x : (⟨1, ![n]⟩ : Shape).Idx → EReal) :
    ∑ j, Host.sort ⟨1, ![n]⟩ 0 cmp x j = ∑ j, x j := by
  rw [Finset.sum_congr rfl fun j _ => Host.sort_rank1 cmp x j]
  exact Fintype.sum_bijective _
    (place.symm.bijective.comp (Function.Bijective.comp ⟨sortedFrom_injective _, sortedFrom_surjective _⟩ place.bijective)) _ _ fun j => rfl

theorem sum_sort (cmp : EReal → EReal → BitVec 1) (x : S4718592.Idx → EReal) :
    ∑ j : S4718592.Idx, Host.sort S4718592 0 cmp x j = ∑ j : S4718592.Idx, x j := sum_sort_rank1 cmp x

/-- A reduce by `add` of words from zero is their sum over the indices that drop to the result's. -/
theorem reduce_addi {s t u : Shape} {axes : List (Fin s.rank)} (x : s.Idx → BitVec 32) (init : u.Idx → BitVec 32)
    (h : s.ReducesTo axes t) (hu : 0 < u.numel) (h0 : ∀ i, init i = 0#32) (j : t.Idx) :
    Host.reduce IntOp.addi x init h hu j = ∑ i ∈ Finset.univ.filter (fun i => h.drop i = j), x i := by
  haveI : Std.Commutative (fun a b : BitVec 32 => a + b) := ⟨fun a b => add_comm a b⟩
  haveI : Std.Associative (fun a b : BitVec 32 => a + b) := ⟨fun a b c => add_assoc a b c⟩
  show Host.reduce (fun a b : BitVec 32 => a + b) x init h hu j = _
  rw [Host.reduce_eq_fold, h0]
  induction (Finset.univ.filter fun i => h.drop i = j) using Finset.cons_induction with
  | empty => rfl
  | cons a S ha ih => rw [Finset.fold_cons, Finset.sum_cons, ih]

/-- The two reduces of the mask, the rows' and then the whole, make the sum of all its words. -/
theorem ref_count (z : IVec S32x384x384 32) (h1 : S32x384x384.ReducesTo [1, 2] Cert.ReferenceIdeal.S32) (h2 : Cert.ReferenceIdeal.S32.ReducesTo [0] S_) (hu : 0 < S_.numel) (j : S_.Idx) :
    Host.reduce IntOp.addi (Host.reduce IntOp.addi z (constantI S_ 32 0#32) h1 hu) (constantI S_ 32 0#32) h2 hu j = ∑ i, z i := by
  rw [reduce_addi _ (constantI S_ 32 0#32) h2 hu (fun _ => rfl) j, Finset.filter_true_of_mem fun i _ => Subsingleton.elim _ _,
    Finset.sum_congr rfl fun r _ => reduce_addi z (constantI S_ 32 0#32) h1 hu (fun _ => rfl) r]
  exact Finset.sum_fiberwise _ _ _

/-- The reference's value: the whole sum over twice the whole count, wrapped to a word. -/
theorem REF_apply (x y : FVec Ideal S32x384x384 .f32) (z : IVec S32x384x384 32) (j : S_.Idx) :
    REF x y z j = Ideal.div (∑ i, term (x i) (y i) (z i)) (Ideal.ofBits .f32 0x40000000#32 * (((∑ i, z i : BitVec 32).toInt : ℝ) : EReal)) := by
  unfold REF
  refine congrArg₂ Ideal.div ?_ (congrArg (Ideal.ofBits .f32 0x40000000#32 * ·) ?_)
  · refine (Ideal.hostReduceAdd_total _ (by decide) _ _ j).trans ?_
    refine (congrArg₂ (· + ·) Ideal.ofBits_zero_f32 (sum_sort _ _)).trans ((zero_add _).trans ?_)
    rw [← Equiv.sum_comp (Shape.reshapeEquiv (s := S32x384x384) (s' := S4718592) shapeCasts_S32x384x384_S4718592)]
    exact Finset.sum_congr rfl fun i _ => (congrArg (fun c => if _ = 1#1 then _ else c) Ideal.ofBits_zero_f32).trans (select_ne _ _ _)
  · exact congrArg (fun b : BitVec 32 => ((b.toInt : ℝ) : EReal)) (ref_count z _ _ _ j)

/-! ## The precondition, and the two results -/

/-- The precondition says that every word of the mask is 0 or 1. -/
theorem mask_of_pre (x y : FVec Ideal S32x384x384 .f32) (z : IVec S32x384x384 32) (j : S_.Idx)
    (h : Cert.Pre_pre.fn (F := Ideal) x y z j = 1#1) (i : S32x384x384.Idx) : (z i).toNat ≤ 1 := by
  have h1 : IntOp.andi (IntOp.cmpi .sge (z i) 0#32) (IntOp.cmpi .slt (z i) 2#32) = 1#1 := Host.reduce_andi_all _ _ _ _ _ h i
  obtain ⟨ha, hb⟩ := IntOp.andi_eq_one.1 h1
  simp only [IntOp.cmpi, ofBool_eq_one_iff, BitVec.slt_eq_decide, BitVec.sle_eq_decide, decide_eq_true_eq, BitVec.reduceToInt] at ha hb
  have ht := BitVec.toInt_eq_toNat_cond (z i)
  split at ht <;> omega

/-- Where the mask is zeros and ones, the kernel's result is the reference's. -/
theorem out_eq (x y : FVec Ideal S32x384x384 .f32) (z : IVec S32x384x384 32) (hz : ∀ i, (z i).toNat ≤ 1) :
    shapeCast S_ (s := S1x1) (k1_pay1 (F := Ideal)
      (NUM (shapeCast S4718592 (s := S32x384x384) x shapeCasts_S32x384x384_S4718592) (shapeCast S4718592 (s := S32x384x384) y shapeCasts_S32x384x384_S4718592) (shapeCast S4718592 (s := S32x384x384) z shapeCasts_S32x384x384_S4718592))
      (CNT (shapeCast S4718592 (s := S32x384x384) x shapeCasts_S32x384x384_S4718592) (shapeCast S4718592 (s := S32x384x384) y shapeCasts_S32x384x384_S4718592) (shapeCast S4718592 (s := S32x384x384) z shapeCasts_S32x384x384_S4718592))) shapeCasts_S1x1_S_
      = REF x y z := by
  funext j
  have hn : ∑ i, term (x i) (y i) (z i) = _ :=
    (Equiv.sum_comp (Shape.reshapeEquiv (s := S32x384x384) (s' := S4718592) shapeCasts_S32x384x384_S4718592) fun i => term (x i) (y i) (z i)).symm
  have hc : ∑ i, (z i).toNat = _ :=
    (Equiv.sum_comp (Shape.reshapeEquiv (s := S32x384x384) (s' := S4718592) shapeCasts_S32x384x384_S4718592) fun i => (z i).toNat).symm
  have hle := total_le (shapeCast S4718592 (s := S32x384x384) z shapeCasts_S32x384x384_S4718592) fun i => hz _
  have ht : ∑ i, (z i).toNat ≤ 4718592 := hc.trans_le hle
  rw [REF_apply]
  refine (pay1_apply _ _ _).trans ?_
  rw [sum_NUM, sum_CNT _ _ (shapeCast S4718592 (s := S32x384x384) z shapeCasts_S32x384x384_S4718592) fun i => hz _,
    toInt_small (toNat_sum Finset.univ z (lt_of_le_of_lt ht (by norm_num))) (lt_of_le_of_lt ht (by norm_num)), hn, hc]
  rfl

end Cert.Proof.Value

end
-- ==== Proof.lean ====
/-
  The certificate of the masked mean absolute residual.

  The kernel: thirty-two SparseCore tiles each take a thirty-second of the three flat arrays, in nine chunks that they copy to
  their own memory, and keep sixteen lane sums of the residuals' magnitudes under the mask and sixteen lane counts of the mask;
  a row of sixteen sums and a row of sixteen counts per tile go to memory, and a TensorCore kernel divides the whole sum by twice
  the whole count.

  The claims, each proved below: the program ends on every memory, with its arguments kept and every semaphore at zero, over
  the machine's floats (`frame_p`) and over the extended reals (`frame_pi`); so does the reference (`frame_ri`); and over the
  extended reals the two results are equal where every word of the mask is 0 or 1 (`values`). The runs are Proof/Main.lean's
  and Proof/IdealMain.lean's, the equality Proof/Value.lean's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_pre
public import proofs.«01_k».proof.Proof.Main
public import proofs.«01_k».proof.Proof.IdealMain
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel over the machine's floats: it ends, its arguments kept, every semaphore at zero. -/
theorem frame_p : Cert.quiescent_Kernel := fun m ρ _ =>
  (θ_run Cert.Kernel.defs _ _).mono (fun _ h => ⟨fun c => ⟨(h.1 c).1, (h.1 c).2.1, (h.1 c).2.2.1⟩, h.2⟩) (KernelRun.run_main (F := Bits) m ρ)

/-- The kernel over the extended reals likewise. -/
theorem frame_pi : Cert.quiescent_KernelIdeal := fun m ρ _ =>
  (θ_run Cert.KernelIdeal.defs _ _).mono (fun _ h => ⟨fun c => ⟨(h.1 c).1, (h.1 c).2.1, (h.1 c).2.2.1⟩, h.2⟩) (KernelIdealRun.run_main (F := Ideal) m ρ)

/-- The same under the precondition, which it does not need. -/
theorem frame_pi_pre : Cert.quiescent_KernelIdeal_pre_pre := fun m ρ _ => frame_pi m ρ trivial

/-- The reference: it ends, its arguments kept; it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which it does not need. -/
theorem frame_ri_pre : Cert.quiescent_ReferenceIdeal_pre_pre := fun m ρ _ => frame_ri m ρ trivial

/-- Where every word of the mask is 0 or 1, the kernel's result over the extended reals is the reference's. -/
theorem values : Cert.algebraic_KernelIdeal_ReferenceIdeal_pre_pre := by
  intro m ρ m' ρ' hpre hagree
  refine ⟨fun d => KernelIdealRun.OUT (F := Ideal) m d,
    (θ_run Cert.KernelIdeal.defs _ _).mono (fun _ h c => ⟨(h.1 c).2.2.2, (h.1 c).1, (h.1 c).2.1, (h.1 c).2.2.1⟩) (KernelIdealRun.run_main (F := Ideal) m ρ),
    (θ_run Cert.ReferenceIdeal.defs _ _).mono (fun r h c => ⟨(h c).1.trans ?_, (h c).2⟩) (Cert.ReferenceIdeal.Value.run (F := Ideal) m' ρ')⟩
  rw [(hagree c).1, (hagree c).2.1, (hagree c).2.2]
  exact (Value.out_eq _ _ _ fun i => Value.mask_of_pre _ _ _ ValueIdx.ix0 (congrFun (hpre c) ValueIdx.ix0) i).symm

/-- Every claim. -/
theorem claim : Cert.Claim := ⟨Cert.Kernel.Gen.facts, Cert.KernelIdeal.Gen.facts, Cert.ReferenceIdeal.Gen.facts, Cert.Pre_pre.Gen.facts,
  frame_p, frame_pi, frame_pi_pre, frame_ri, frame_ri_pre, trivial, values⟩

end Cert.Proof

end
